-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![24576, 384]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S24576x768 : Shape := ⟨2, ![24576, 768]⟩
abbrev S768x768 : Shape := ⟨2, ![768, 768]⟩
abbrev S_ : Shape := ⟨0, ![]⟩
abbrev S16x4 : Shape := ⟨2, ![16, 4]⟩
abbrev S1x1 : Shape := ⟨2, ![1, 1]⟩
abbrev S192x768 : Shape := ⟨2, ![192, 768]⟩

abbrev nBuf : Space → Nat
  | .hbm => 3
  | .vmem => 3
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S24576x768, .bf16⟩
  | .local _ .vmem, ⟨0, _⟩ => ⟨S768x384, .bf16⟩
  | .local _ .vmem, ⟨1, _⟩ => ⟨S384x768, .bf16⟩
  | .local _ .vmem, ⟨2, _⟩ => ⟨S768x768, .bf16⟩
  | _, _ => ⟨S768x384, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 259 → Bool
  | ⟨i, _⟩ => dmaSemScopedAt i

abbrev sig : RefSig :=
  (ofTc nBuf bufTy 1 259 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c768_i32 : BitVec 32 := 768#32
  let v219 : BitVec 32 := Scalar.muli v2 c768_i32
  let c0_i32_116 : BitVec 32 := 0#32
  ![v219.toNat, 0]
def k0_dev1 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_118 : BitVec 32 := 1#32
  let v222 : BitVec 32 := Scalar.muli v209 c1_i32_118
  let v223 : BitVec 32 := Scalar.addi c0_i32_119 v222
  v223.toNat
def k0_dev2 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_121 : BitVec 32 := 1#32
  let v224 : BitVec 32 := Scalar.muli v153 c1_i32_121
  let v225 : BitVec 32 := Scalar.addi c0_i32_122 v224
  v225.toNat
def k0_off2 (d0 : Dev nD) (c0_i32_124 : BitVec 32) (c0_i32_159 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let v226 : BitVec 32 := Scalar.subi v97 c0_i32_124
  let c64_i32_125 : BitVec 32 := 64#32
  let v227 : BitVec 32 := Scalar.addi v226 c64_i32_125
  let c32_i32_126 : BitVec 32 := 32#32
  let v228 : BitVec 32 := Scalar.remsi v227 c32_i32_126
  let c16_i32_130 : BitVec 32 := 16#32
  let v231 : BitVec 1 := Scalar.cmpi .slt v228 c16_i32_130
  let c31_i32_131 : BitVec 32 := 31#32
  let v232 : BitVec 32 := Scalar.subi c31_i32_131 v228
  let v233 : BitVec 32 := Scalar.select v231 v228 v232
  let c0_i32_133 : BitVec 32 := 0#32
  let v235 : BitVec 1 := Scalar.cmpi .sgt v233 c0_i32_133
  let v236 : BitVec 32 := Scalar.extui v235
  let c0_i32_134 : BitVec 32 := 0#32
  let v237 : BitVec 1 := Scalar.cmpi .slt v233 c0_i32_134
  let v238 : BitVec 32 := Scalar.extui v237
  let v239 : BitVec 32 := Scalar.subi v236 v238
  let c4_i32_132 : BitVec 32 := 4#32
  let c0_i32_135 : BitVec 32 := 0#32
  let v240 : BitVec 1 := Scalar.cmpi .sgt c4_i32_132 c0_i32_135
  let v241 : BitVec 32 := Scalar.extui v240
  let c0_i32_136 : BitVec 32 := 0#32
  let v242 : BitVec 1 := Scalar.cmpi .slt c4_i32_132 c0_i32_136
  let v243 : BitVec 32 := Scalar.extui v242
  let v244 : BitVec 32 := Scalar.subi v241 v243
  let v245 : BitVec 1 := Scalar.cmpi .ne v239 v244
  let v246 : BitVec 32 := Scalar.remsi v233 c4_i32_132
  let c0_i32_137 : BitVec 32 := 0#32
  let v247 : BitVec 1 := Scalar.cmpi .ne v246 c0_i32_137
  let v248 : BitVec 1 := Scalar.andi v245 v247
  let v234 : BitVec 32 := Scalar.divsi v233 c4_i32_132
  let c1_i32_138 : BitVec 32 := 1#32
  let v249 : BitVec 32 := Scalar.subi v234 c1_i32_138
  let v250 : BitVec 32 := Scalar.select v248 v249 v234
  let c8_i32_157 : BitVec 32 := 8#32
  let v280 : BitVec 32 := Scalar.muli v250 c8_i32_157
  let c2_i32_148 : BitVec 32 := 2#32
  let c2_i32_140 : BitVec 32 := 2#32
  let c0_i32_141 : BitVec 32 := 0#32
  let v252 : BitVec 1 := Scalar.cmpi .eq c2_i32_140 c0_i32_141
  let c1_i32_142 : BitVec 32 := 1#32
  let v253 : BitVec 32 := Scalar.select v252 c1_i32_142 c2_i32_140
  let v254 : BitVec 32 := Scalar.remsi v250 v253
  let c0_i32_144 : BitVec 32 := 0#32
  let v256 : BitVec 1 := Scalar.cmpi .slt v254 c0_i32_144
  let c0_i32_145 : BitVec 32 := 0#32
  let v257 : BitVec 1 := Scalar.cmpi .slt v253 c0_i32_145
  let v258 : BitVec 1 := Scalar.xori v256 v257
  let c0_i32_143 : BitVec 32 := 0#32
  let v255 : BitVec 1 := Scalar.cmpi .ne v254 c0_i32_143
  let v259 : BitVec 1 := Scalar.andi v258 v255
  let v260 : BitVec 32 := Scalar.addi v254 v253
  let v261 : BitVec 32 := Scalar.select v259 v260 v254
  let c0_i32_146 : BitVec 32 := 0#32
  let v262 : BitVec 1 := Scalar.cmpi .eq v261 c0_i32_146
  let c4_i32_139 : BitVec 32 := 4#32
  let v251 : BitVec 32 := Scalar.remsi v233 c4_i32_139
  let c3_i32_147 : BitVec 32 := 3#32
  let v263 : BitVec 32 := Scalar.subi c3_i32_147 v251
  let v264 : BitVec 32 := Scalar.select v262 v251 v263
  let v265 : BitVec 32 := Scalar.muli c2_i32_148 v264
  let c2_i32_149 : BitVec 32 := 2#32
  let c0_i32_150 : BitVec 32 := 0#32
  let v266 : BitVec 1 := Scalar.cmpi .eq c2_i32_149 c0_i32_150
  let c1_i32_151 : BitVec 32 := 1#32
  let v267 : BitVec 32 := Scalar.select v266 c1_i32_151 c2_i32_149
  let v268 : BitVec 32 := Scalar.remsi v264 v267
  let c0_i32_153 : BitVec 32 := 0#32
  let v270 : BitVec 1 := Scalar.cmpi .slt v268 c0_i32_153
  let c0_i32_154 : BitVec 32 := 0#32
  let v271 : BitVec 1 := Scalar.cmpi .slt v267 c0_i32_154
  let v272 : BitVec 1 := Scalar.xori v270 v271
  let c0_i32_152 : BitVec 32 := 0#32
  let v269 : BitVec 1 := Scalar.cmpi .ne v268 c0_i32_152
  let v273 : BitVec 1 := Scalar.andi v272 v269
  let v274 : BitVec 32 := Scalar.addi v268 v267
  let v275 : BitVec 32 := Scalar.select v273 v274 v268
  let c0_i32_155 : BitVec 32 := 0#32
  let v276 : BitVec 1 := Scalar.cmpi .eq v275 c0_i32_155
  let c16_i32_127 : BitVec 32 := 16#32
  let v229 : BitVec 1 := Scalar.cmpi .slt v228 c16_i32_127
  let c0_i32_128 : BitVec 32 := 0#32
  let c1_i32_129 : BitVec 32 := 1#32
  let v230 : BitVec 32 := Scalar.select v229 c0_i32_128 c1_i32_129
  let c1_i32_156 : BitVec 32 := 1#32
  let v277 : BitVec 32 := Scalar.subi c1_i32_156 v230
  let v278 : BitVec 32 := Scalar.select v276 v230 v277
  let v279 : BitVec 32 := Scalar.addi v265 v278
  let v281 : BitVec 32 := Scalar.addi v280 v279
  let c768_i32_158 : BitVec 32 := 768#32
  let v282 : BitVec 32 := Scalar.muli v281 c768_i32_158
  let v283 : BitVec 32 := Scalar.addi v282 c0_i32_159
  let c0_i32_166 : BitVec 32 := 0#32
  ![v283.toNat, 0]
def k0_off2_at (r : Fin 62) : BitVec 32 × BitVec 32 :=
  if r.val < 31 then
    if r.val < 15 then
      if r.val < 7 then
        if r.val < 3 then
          if r.val < 1 then
            (0#32, 0#32)
          else
            if r.val < 2 then
              (0#32, 192#32)
            else
              (0#32, 384#32)
        else
          if r.val < 5 then
            if r.val < 4 then
              (0#32, 576#32)
            else
              (1#32, 0#32)
          else
            if r.val < 6 then
              (1#32, 192#32)
            else
              (1#32, 384#32)
      else
        if r.val < 11 then
          if r.val < 9 then
            if r.val < 8 then
              (1#32, 576#32)
            else
              (2#32, 0#32)
          else
            if r.val < 10 then
              (2#32, 192#32)
            else
              (2#32, 384#32)
        else
          if r.val < 13 then
            if r.val < 12 then
              (2#32, 576#32)
            else
              (3#32, 0#32)
          else
            if r.val < 14 then
              (3#32, 192#32)
            else
              (3#32, 384#32)
    else
      if r.val < 23 then
        if r.val < 19 then
          if r.val < 17 then
            if r.val < 16 then
              (3#32, 576#32)
            else
              (4#32, 0#32)
          else
            if r.val < 18 then
              (4#32, 192#32)
            else
              (4#32, 384#32)
        else
          if r.val < 21 then
            if r.val < 20 then
              (4#32, 576#32)
            else
              (5#32, 0#32)
          else
            if r.val < 22 then
              (5#32, 192#32)
            else
              (5#32, 384#32)
      else
        if r.val < 27 then
          if r.val < 25 then
            if r.val < 24 then
              (5#32, 576#32)
            else
              (6#32, 0#32)
          else
            if r.val < 26 then
              (6#32, 192#32)
            else
              (6#32, 384#32)
        else
          if r.val < 29 then
            if r.val < 28 then
              (6#32, 576#32)
            else
              (7#32, 0#32)
          else
            if r.val < 30 then
              (7#32, 192#32)
            else
              (7#32, 384#32)
  else
    if r.val < 46 then
      if r.val < 38 then
        if r.val < 34 then
          if r.val < 32 then
            (7#32, 576#32)
          else
            if r.val < 33 then
              (8#32, 0#32)
            else
              (8#32, 192#32)
        else
          if r.val < 36 then
            if r.val < 35 then
              (8#32, 384#32)
            else
              (8#32, 576#32)
          else
            if r.val < 37 then
              (9#32, 0#32)
            else
              (9#32, 192#32)
      else
        if r.val < 42 then
          if r.val < 40 then
            if r.val < 39 then
              (9#32, 384#32)
            else
              (9#32, 576#32)
          else
            if r.val < 41 then
              (10#32, 0#32)
            else
              (10#32, 192#32)
        else
          if r.val < 44 then
            if r.val < 43 then
              (10#32, 384#32)
            else
              (10#32, 576#32)
          else
            if r.val < 45 then
              (11#32, 0#32)
            else
              (11#32, 192#32)
    else
      if r.val < 54 then
        if r.val < 50 then
          if r.val < 48 then
            if r.val < 47 then
              (11#32, 384#32)
            else
              (11#32, 576#32)
          else
            if r.val < 49 then
              (12#32, 0#32)
            else
              (12#32, 192#32)
        else
          if r.val < 52 then
            if r.val < 51 then
              (12#32, 384#32)
            else
              (12#32, 576#32)
          else
            if r.val < 53 then
              (13#32, 0#32)
            else
              (13#32, 192#32)
      else
        if r.val < 58 then
          if r.val < 56 then
            if r.val < 55 then
              (13#32, 384#32)
            else
              (13#32, 576#32)
          else
            if r.val < 57 then
              (14#32, 0#32)
            else
              (14#32, 192#32)
        else
          if r.val < 60 then
            if r.val < 59 then
              (14#32, 384#32)
            else
              (14#32, 576#32)
          else
            if r.val < 61 then
              (15#32, 0#32)
            else
              (15#32, 192#32)
def k0_dev3 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_164 : BitVec 32 := 1#32
  let v284 : BitVec 32 := Scalar.muli v153 c1_i32_164
  let v285 : BitVec 32 := Scalar.addi c0_i32_165 v284
  v285.toNat
def k0_dev4 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_208 : BitVec 32 := 1#32
  let v350 : BitVec 32 := Scalar.muli v153 c1_i32_208
  let v351 : BitVec 32 := Scalar.addi c0_i32_209 v350
  v351.toNat
def k0_dev5 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_252 : BitVec 32 := 1#32
  let v416 : BitVec 32 := Scalar.muli v153 c1_i32_252
  let v417 : BitVec 32 := Scalar.addi c0_i32_253 v416
  v417.toNat
def k0_dev6 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_296 : BitVec 32 := 1#32
  let v482 : BitVec 32 := Scalar.muli v153 c1_i32_296
  let v483 : BitVec 32 := Scalar.addi c0_i32_297 v482
  v483.toNat
def k0_off3 (d0 : Dev nD) (c0_i32_301 : BitVec 32) (c0_i32_336 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let v490 : BitVec 32 := Scalar.addi v97 c0_i32_301
  let c64_i32_302 : BitVec 32 := 64#32
  let v491 : BitVec 32 := Scalar.addi v490 c64_i32_302
  let c32_i32_303 : BitVec 32 := 32#32
  let v492 : BitVec 32 := Scalar.remsi v491 c32_i32_303
  let c16_i32_307 : BitVec 32 := 16#32
  let v495 : BitVec 1 := Scalar.cmpi .slt v492 c16_i32_307
  let c31_i32_308 : BitVec 32 := 31#32
  let v496 : BitVec 32 := Scalar.subi c31_i32_308 v492
  let v497 : BitVec 32 := Scalar.select v495 v492 v496
  let c0_i32_310 : BitVec 32 := 0#32
  let v499 : BitVec 1 := Scalar.cmpi .sgt v497 c0_i32_310
  let v500 : BitVec 32 := Scalar.extui v499
  let c0_i32_311 : BitVec 32 := 0#32
  let v501 : BitVec 1 := Scalar.cmpi .slt v497 c0_i32_311
  let v502 : BitVec 32 := Scalar.extui v501
  let v503 : BitVec 32 := Scalar.subi v500 v502
  let c4_i32_309 : BitVec 32 := 4#32
  let c0_i32_312 : BitVec 32 := 0#32
  let v504 : BitVec 1 := Scalar.cmpi .sgt c4_i32_309 c0_i32_312
  let v505 : BitVec 32 := Scalar.extui v504
  let c0_i32_313 : BitVec 32 := 0#32
  let v506 : BitVec 1 := Scalar.cmpi .slt c4_i32_309 c0_i32_313
  let v507 : BitVec 32 := Scalar.extui v506
  let v508 : BitVec 32 := Scalar.subi v505 v507
  let v509 : BitVec 1 := Scalar.cmpi .ne v503 v508
  let v510 : BitVec 32 := Scalar.remsi v497 c4_i32_309
  let c0_i32_314 : BitVec 32 := 0#32
  let v511 : BitVec 1 := Scalar.cmpi .ne v510 c0_i32_314
  let v512 : BitVec 1 := Scalar.andi v509 v511
  let v498 : BitVec 32 := Scalar.divsi v497 c4_i32_309
  let c1_i32_315 : BitVec 32 := 1#32
  let v513 : BitVec 32 := Scalar.subi v498 c1_i32_315
  let v514 : BitVec 32 := Scalar.select v512 v513 v498
  let c8_i32_334 : BitVec 32 := 8#32
  let v544 : BitVec 32 := Scalar.muli v514 c8_i32_334
  let c2_i32_325 : BitVec 32 := 2#32
  let c2_i32_317 : BitVec 32 := 2#32
  let c0_i32_318 : BitVec 32 := 0#32
  let v516 : BitVec 1 := Scalar.cmpi .eq c2_i32_317 c0_i32_318
  let c1_i32_319 : BitVec 32 := 1#32
  let v517 : BitVec 32 := Scalar.select v516 c1_i32_319 c2_i32_317
  let v518 : BitVec 32 := Scalar.remsi v514 v517
  let c0_i32_321 : BitVec 32 := 0#32
  let v520 : BitVec 1 := Scalar.cmpi .slt v518 c0_i32_321
  let c0_i32_322 : BitVec 32 := 0#32
  let v521 : BitVec 1 := Scalar.cmpi .slt v517 c0_i32_322
  let v522 : BitVec 1 := Scalar.xori v520 v521
  let c0_i32_320 : BitVec 32 := 0#32
  let v519 : BitVec 1 := Scalar.cmpi .ne v518 c0_i32_320
  let v523 : BitVec 1 := Scalar.andi v522 v519
  let v524 : BitVec 32 := Scalar.addi v518 v517
  let v525 : BitVec 32 := Scalar.select v523 v524 v518
  let c0_i32_323 : BitVec 32 := 0#32
  let v526 : BitVec 1 := Scalar.cmpi .eq v525 c0_i32_323
  let c4_i32_316 : BitVec 32 := 4#32
  let v515 : BitVec 32 := Scalar.remsi v497 c4_i32_316
  let c3_i32_324 : BitVec 32 := 3#32
  let v527 : BitVec 32 := Scalar.subi c3_i32_324 v515
  let v528 : BitVec 32 := Scalar.select v526 v515 v527
  let v529 : BitVec 32 := Scalar.muli c2_i32_325 v528
  let c2_i32_326 : BitVec 32 := 2#32
  let c0_i32_327 : BitVec 32 := 0#32
  let v530 : BitVec 1 := Scalar.cmpi .eq c2_i32_326 c0_i32_327
  let c1_i32_328 : BitVec 32 := 1#32
  let v531 : BitVec 32 := Scalar.select v530 c1_i32_328 c2_i32_326
  let v532 : BitVec 32 := Scalar.remsi v528 v531
  let c0_i32_330 : BitVec 32 := 0#32
  let v534 : BitVec 1 := Scalar.cmpi .slt v532 c0_i32_330
  let c0_i32_331 : BitVec 32 := 0#32
  let v535 : BitVec 1 := Scalar.cmpi .slt v531 c0_i32_331
  let v536 : BitVec 1 := Scalar.xori v534 v535
  let c0_i32_329 : BitVec 32 := 0#32
  let v533 : BitVec 1 := Scalar.cmpi .ne v532 c0_i32_329
  let v537 : BitVec 1 := Scalar.andi v536 v533
  let v538 : BitVec 32 := Scalar.addi v532 v531
  let v539 : BitVec 32 := Scalar.select v537 v538 v532
  let c0_i32_332 : BitVec 32 := 0#32
  let v540 : BitVec 1 := Scalar.cmpi .eq v539 c0_i32_332
  let c16_i32_304 : BitVec 32 := 16#32
  let v493 : BitVec 1 := Scalar.cmpi .slt v492 c16_i32_304
  let c0_i32_305 : BitVec 32 := 0#32
  let c1_i32_306 : BitVec 32 := 1#32
  let v494 : BitVec 32 := Scalar.select v493 c0_i32_305 c1_i32_306
  let c1_i32_333 : BitVec 32 := 1#32
  let v541 : BitVec 32 := Scalar.subi c1_i32_333 v494
  let v542 : BitVec 32 := Scalar.select v540 v494 v541
  let v543 : BitVec 32 := Scalar.addi v529 v542
  let v545 : BitVec 32 := Scalar.addi v544 v543
  let c768_i32_335 : BitVec 32 := 768#32
  let v546 : BitVec 32 := Scalar.muli v545 c768_i32_335
  let v547 : BitVec 32 := Scalar.addi v546 c0_i32_336
  let c0_i32_343 : BitVec 32 := 0#32
  ![v547.toNat, 0]
def k0_off3_at (r : Fin 62) : BitVec 32 × BitVec 32 :=
  if r.val < 31 then
    if r.val < 15 then
      if r.val < 7 then
        if r.val < 3 then
          if r.val < 1 then
            (0#32, 0#32)
          else
            if r.val < 2 then
              (0#32, 192#32)
            else
              (0#32, 384#32)
        else
          if r.val < 5 then
            if r.val < 4 then
              (0#32, 576#32)
            else
              (1#32, 0#32)
          else
            if r.val < 6 then
              (1#32, 192#32)
            else
              (1#32, 384#32)
      else
        if r.val < 11 then
          if r.val < 9 then
            if r.val < 8 then
              (1#32, 576#32)
            else
              (2#32, 0#32)
          else
            if r.val < 10 then
              (2#32, 192#32)
            else
              (2#32, 384#32)
        else
          if r.val < 13 then
            if r.val < 12 then
              (2#32, 576#32)
            else
              (3#32, 0#32)
          else
            if r.val < 14 then
              (3#32, 192#32)
            else
              (3#32, 384#32)
    else
      if r.val < 23 then
        if r.val < 19 then
          if r.val < 17 then
            if r.val < 16 then
              (3#32, 576#32)
            else
              (4#32, 0#32)
          else
            if r.val < 18 then
              (4#32, 192#32)
            else
              (4#32, 384#32)
        else
          if r.val < 21 then
            if r.val < 20 then
              (4#32, 576#32)
            else
              (5#32, 0#32)
          else
            if r.val < 22 then
              (5#32, 192#32)
            else
              (5#32, 384#32)
      else
        if r.val < 27 then
          if r.val < 25 then
            if r.val < 24 then
              (5#32, 576#32)
            else
              (6#32, 0#32)
          else
            if r.val < 26 then
              (6#32, 192#32)
            else
              (6#32, 384#32)
        else
          if r.val < 29 then
            if r.val < 28 then
              (6#32, 576#32)
            else
              (7#32, 0#32)
          else
            if r.val < 30 then
              (7#32, 192#32)
            else
              (7#32, 384#32)
  else
    if r.val < 46 then
      if r.val < 38 then
        if r.val < 34 then
          if r.val < 32 then
            (7#32, 576#32)
          else
            if r.val < 33 then
              (8#32, 0#32)
            else
              (8#32, 192#32)
        else
          if r.val < 36 then
            if r.val < 35 then
              (8#32, 384#32)
            else
              (8#32, 576#32)
          else
            if r.val < 37 then
              (9#32, 0#32)
            else
              (9#32, 192#32)
      else
        if r.val < 42 then
          if r.val < 40 then
            if r.val < 39 then
              (9#32, 384#32)
            else
              (9#32, 576#32)
          else
            if r.val < 41 then
              (10#32, 0#32)
            else
              (10#32, 192#32)
        else
          if r.val < 44 then
            if r.val < 43 then
              (10#32, 384#32)
            else
              (10#32, 576#32)
          else
            if r.val < 45 then
              (11#32, 0#32)
            else
              (11#32, 192#32)
    else
      if r.val < 54 then
        if r.val < 50 then
          if r.val < 48 then
            if r.val < 47 then
              (11#32, 384#32)
            else
              (11#32, 576#32)
          else
            if r.val < 49 then
              (12#32, 0#32)
            else
              (12#32, 192#32)
        else
          if r.val < 52 then
            if r.val < 51 then
              (12#32, 384#32)
            else
              (12#32, 576#32)
          else
            if r.val < 53 then
              (13#32, 0#32)
            else
              (13#32, 192#32)
      else
        if r.val < 58 then
          if r.val < 56 then
            if r.val < 55 then
              (13#32, 384#32)
            else
              (13#32, 576#32)
          else
            if r.val < 57 then
              (14#32, 0#32)
            else
              (14#32, 192#32)
        else
          if r.val < 60 then
            if r.val < 59 then
              (14#32, 384#32)
            else
              (14#32, 576#32)
          else
            if r.val < 61 then
              (15#32, 384#32)
            else
              (15#32, 576#32)
def k0_dev7 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_341 : BitVec 32 := 1#32
  let v548 : BitVec 32 := Scalar.muli v209 c1_i32_341
  let v549 : BitVec 32 := Scalar.addi c0_i32_342 v548
  v549.toNat
def k0_dev8 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_386 : BitVec 32 := 1#32
  let v614 : BitVec 32 := Scalar.muli v209 c1_i32_386
  let v615 : BitVec 32 := Scalar.addi c0_i32_387 v614
  v615.toNat
def k0_dev9 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_431 : BitVec 32 := 1#32
  let v680 : BitVec 32 := Scalar.muli v209 c1_i32_431
  let v681 : BitVec 32 := Scalar.addi c0_i32_432 v680
  v681.toNat
def k0_dev10 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_476 : BitVec 32 := 1#32
  let v746 : BitVec 32 := Scalar.muli v209 c1_i32_476
  let v747 : BitVec 32 := Scalar.addi c0_i32_477 v746
  v747.toNat
def k0_dev11 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_532 : BitVec 32 := 1#32
  let v820 : BitVec 32 := Scalar.muli v153 c1_i32_532
  let v821 : BitVec 32 := Scalar.addi c0_i32_533 v820
  v821.toNat
def k0_dev12 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_587 : BitVec 32 := 1#32
  let v894 : BitVec 32 := Scalar.muli v153 c1_i32_587
  let v895 : BitVec 32 := Scalar.addi c0_i32_588 v894
  v895.toNat
def k0_dev13 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_642 : BitVec 32 := 1#32
  let v968 : BitVec 32 := Scalar.muli v153 c1_i32_642
  let v969 : BitVec 32 := Scalar.addi c0_i32_643 v968
  v969.toNat
def k0_dev14 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_697 : BitVec 32 := 1#32
  let v1042 : BitVec 32 := Scalar.muli v153 c1_i32_697
  let v1043 : BitVec 32 := Scalar.addi c0_i32_698 v1042
  v1043.toNat
def k0_dev15 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_752 : BitVec 32 := 1#32
  let v1116 : BitVec 32 := Scalar.muli v209 c1_i32_752
  let v1117 : BitVec 32 := Scalar.addi c0_i32_753 v1116
  v1117.toNat
def k0_dev16 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_807 : BitVec 32 := 1#32
  let v1190 : BitVec 32 := Scalar.muli v209 c1_i32_807
  let v1191 : BitVec 32 := Scalar.addi c0_i32_808 v1190
  v1191.toNat
def k0_dev17 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_862 : BitVec 32 := 1#32
  let v1264 : BitVec 32 := Scalar.muli v209 c1_i32_862
  let v1265 : BitVec 32 := Scalar.addi c0_i32_863 v1264
  v1265.toNat
def k0_dev18 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_917 : BitVec 32 := 1#32
  let v1338 : BitVec 32 := Scalar.muli v209 c1_i32_917
  let v1339 : BitVec 32 := Scalar.addi c0_i32_918 v1338
  v1339.toNat
def k0_dev19 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_971 : BitVec 32 := 1#32
  let v1412 : BitVec 32 := Scalar.muli v153 c1_i32_971
  let v1413 : BitVec 32 := Scalar.addi c0_i32_972 v1412
  v1413.toNat
def k0_dev20 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1025 : BitVec 32 := 1#32
  let v1486 : BitVec 32 := Scalar.muli v153 c1_i32_1025
  let v1487 : BitVec 32 := Scalar.addi c0_i32_1026 v1486
  v1487.toNat
def k0_dev21 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1079 : BitVec 32 := 1#32
  let v1560 : BitVec 32 := Scalar.muli v153 c1_i32_1079
  let v1561 : BitVec 32 := Scalar.addi c0_i32_1080 v1560
  v1561.toNat
def k0_dev22 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1133 : BitVec 32 := 1#32
  let v1634 : BitVec 32 := Scalar.muli v153 c1_i32_1133
  let v1635 : BitVec 32 := Scalar.addi c0_i32_1134 v1634
  v1635.toNat
def k0_dev23 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1187 : BitVec 32 := 1#32
  let v1708 : BitVec 32 := Scalar.muli v209 c1_i32_1187
  let v1709 : BitVec 32 := Scalar.addi c0_i32_1188 v1708
  v1709.toNat
def k0_dev24 (d0 : Dev nD) : Nat :=
  let c0_i32_1242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1241 : BitVec 32 := 1#32
  let v1782 : BitVec 32 := Scalar.muli v209 c1_i32_1241
  let v1783 : BitVec 32 := Scalar.addi c0_i32_1242 v1782
  v1783.toNat
def k0_dev25 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1295 : BitVec 32 := 1#32
  let v1856 : BitVec 32 := Scalar.muli v209 c1_i32_1295
  let v1857 : BitVec 32 := Scalar.addi c0_i32_1296 v1856
  v1857.toNat
def k0_dev26 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1349 : BitVec 32 := 1#32
  let v1930 : BitVec 32 := Scalar.muli v209 c1_i32_1349
  let v1931 : BitVec 32 := Scalar.addi c0_i32_1350 v1930
  v1931.toNat
def k0_dev27 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1403 : BitVec 32 := 1#32
  let v2004 : BitVec 32 := Scalar.muli v153 c1_i32_1403
  let v2005 : BitVec 32 := Scalar.addi c0_i32_1404 v2004
  v2005.toNat
def k0_dev28 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1457 : BitVec 32 := 1#32
  let v2078 : BitVec 32 := Scalar.muli v153 c1_i32_1457
  let v2079 : BitVec 32 := Scalar.addi c0_i32_1458 v2078
  v2079.toNat
def k0_dev29 (d0 : Dev nD) : Nat :=
  let c0_i32_1512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1511 : BitVec 32 := 1#32
  let v2152 : BitVec 32 := Scalar.muli v153 c1_i32_1511
  let v2153 : BitVec 32 := Scalar.addi c0_i32_1512 v2152
  v2153.toNat
def k0_dev30 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1565 : BitVec 32 := 1#32
  let v2226 : BitVec 32 := Scalar.muli v153 c1_i32_1565
  let v2227 : BitVec 32 := Scalar.addi c0_i32_1566 v2226
  v2227.toNat
def k0_dev31 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1619 : BitVec 32 := 1#32
  let v2300 : BitVec 32 := Scalar.muli v209 c1_i32_1619
  let v2301 : BitVec 32 := Scalar.addi c0_i32_1620 v2300
  v2301.toNat
def k0_dev32 (d0 : Dev nD) : Nat :=
  let c0_i32_1674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1673 : BitVec 32 := 1#32
  let v2374 : BitVec 32 := Scalar.muli v209 c1_i32_1673
  let v2375 : BitVec 32 := Scalar.addi c0_i32_1674 v2374
  v2375.toNat
def k0_dev33 (d0 : Dev nD) : Nat :=
  let c0_i32_1728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1727 : BitVec 32 := 1#32
  let v2448 : BitVec 32 := Scalar.muli v209 c1_i32_1727
  let v2449 : BitVec 32 := Scalar.addi c0_i32_1728 v2448
  v2449.toNat
def k0_dev34 (d0 : Dev nD) : Nat :=
  let c0_i32_1782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_1781 : BitVec 32 := 1#32
  let v2522 : BitVec 32 := Scalar.muli v209 c1_i32_1781
  let v2523 : BitVec 32 := Scalar.addi c0_i32_1782 v2522
  v2523.toNat
def k0_dev35 (d0 : Dev nD) : Nat :=
  let c0_i32_1836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1835 : BitVec 32 := 1#32
  let v2596 : BitVec 32 := Scalar.muli v153 c1_i32_1835
  let v2597 : BitVec 32 := Scalar.addi c0_i32_1836 v2596
  v2597.toNat
def k0_dev36 (d0 : Dev nD) : Nat :=
  let c0_i32_1890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1889 : BitVec 32 := 1#32
  let v2670 : BitVec 32 := Scalar.muli v153 c1_i32_1889
  let v2671 : BitVec 32 := Scalar.addi c0_i32_1890 v2670
  v2671.toNat
def k0_dev37 (d0 : Dev nD) : Nat :=
  let c0_i32_1944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1943 : BitVec 32 := 1#32
  let v2744 : BitVec 32 := Scalar.muli v153 c1_i32_1943
  let v2745 : BitVec 32 := Scalar.addi c0_i32_1944 v2744
  v2745.toNat
def k0_dev38 (d0 : Dev nD) : Nat :=
  let c0_i32_1998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_1997 : BitVec 32 := 1#32
  let v2818 : BitVec 32 := Scalar.muli v153 c1_i32_1997
  let v2819 : BitVec 32 := Scalar.addi c0_i32_1998 v2818
  v2819.toNat
def k0_dev39 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2051 : BitVec 32 := 1#32
  let v2892 : BitVec 32 := Scalar.muli v209 c1_i32_2051
  let v2893 : BitVec 32 := Scalar.addi c0_i32_2052 v2892
  v2893.toNat
def k0_dev40 (d0 : Dev nD) : Nat :=
  let c0_i32_2106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2105 : BitVec 32 := 1#32
  let v2966 : BitVec 32 := Scalar.muli v209 c1_i32_2105
  let v2967 : BitVec 32 := Scalar.addi c0_i32_2106 v2966
  v2967.toNat
def k0_dev41 (d0 : Dev nD) : Nat :=
  let c0_i32_2160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2159 : BitVec 32 := 1#32
  let v3040 : BitVec 32 := Scalar.muli v209 c1_i32_2159
  let v3041 : BitVec 32 := Scalar.addi c0_i32_2160 v3040
  v3041.toNat
def k0_dev42 (d0 : Dev nD) : Nat :=
  let c0_i32_2214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2213 : BitVec 32 := 1#32
  let v3114 : BitVec 32 := Scalar.muli v209 c1_i32_2213
  let v3115 : BitVec 32 := Scalar.addi c0_i32_2214 v3114
  v3115.toNat
def k0_dev43 (d0 : Dev nD) : Nat :=
  let c0_i32_2267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2266 : BitVec 32 := 1#32
  let v3188 : BitVec 32 := Scalar.muli v153 c1_i32_2266
  let v3189 : BitVec 32 := Scalar.addi c0_i32_2267 v3188
  v3189.toNat
def k0_dev44 (d0 : Dev nD) : Nat :=
  let c0_i32_2321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2320 : BitVec 32 := 1#32
  let v3262 : BitVec 32 := Scalar.muli v153 c1_i32_2320
  let v3263 : BitVec 32 := Scalar.addi c0_i32_2321 v3262
  v3263.toNat
def k0_dev45 (d0 : Dev nD) : Nat :=
  let c0_i32_2375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2374 : BitVec 32 := 1#32
  let v3336 : BitVec 32 := Scalar.muli v153 c1_i32_2374
  let v3337 : BitVec 32 := Scalar.addi c0_i32_2375 v3336
  v3337.toNat
def k0_dev46 (d0 : Dev nD) : Nat :=
  let c0_i32_2429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2428 : BitVec 32 := 1#32
  let v3410 : BitVec 32 := Scalar.muli v153 c1_i32_2428
  let v3411 : BitVec 32 := Scalar.addi c0_i32_2429 v3410
  v3411.toNat
def k0_dev47 (d0 : Dev nD) : Nat :=
  let c0_i32_2483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2482 : BitVec 32 := 1#32
  let v3484 : BitVec 32 := Scalar.muli v209 c1_i32_2482
  let v3485 : BitVec 32 := Scalar.addi c0_i32_2483 v3484
  v3485.toNat
def k0_dev48 (d0 : Dev nD) : Nat :=
  let c0_i32_2537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2536 : BitVec 32 := 1#32
  let v3558 : BitVec 32 := Scalar.muli v209 c1_i32_2536
  let v3559 : BitVec 32 := Scalar.addi c0_i32_2537 v3558
  v3559.toNat
def k0_dev49 (d0 : Dev nD) : Nat :=
  let c0_i32_2591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2590 : BitVec 32 := 1#32
  let v3632 : BitVec 32 := Scalar.muli v209 c1_i32_2590
  let v3633 : BitVec 32 := Scalar.addi c0_i32_2591 v3632
  v3633.toNat
def k0_dev50 (d0 : Dev nD) : Nat :=
  let c0_i32_2645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2644 : BitVec 32 := 1#32
  let v3706 : BitVec 32 := Scalar.muli v209 c1_i32_2644
  let v3707 : BitVec 32 := Scalar.addi c0_i32_2645 v3706
  v3707.toNat
def k0_dev51 (d0 : Dev nD) : Nat :=
  let c0_i32_2698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2697 : BitVec 32 := 1#32
  let v3780 : BitVec 32 := Scalar.muli v153 c1_i32_2697
  let v3781 : BitVec 32 := Scalar.addi c0_i32_2698 v3780
  v3781.toNat
def k0_dev52 (d0 : Dev nD) : Nat :=
  let c0_i32_2752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2751 : BitVec 32 := 1#32
  let v3854 : BitVec 32 := Scalar.muli v153 c1_i32_2751
  let v3855 : BitVec 32 := Scalar.addi c0_i32_2752 v3854
  v3855.toNat
def k0_dev53 (d0 : Dev nD) : Nat :=
  let c0_i32_2806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2805 : BitVec 32 := 1#32
  let v3928 : BitVec 32 := Scalar.muli v153 c1_i32_2805
  let v3929 : BitVec 32 := Scalar.addi c0_i32_2806 v3928
  v3929.toNat
def k0_dev54 (d0 : Dev nD) : Nat :=
  let c0_i32_2860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_2859 : BitVec 32 := 1#32
  let v4002 : BitVec 32 := Scalar.muli v153 c1_i32_2859
  let v4003 : BitVec 32 := Scalar.addi c0_i32_2860 v4002
  v4003.toNat
def k0_dev55 (d0 : Dev nD) : Nat :=
  let c0_i32_2914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2913 : BitVec 32 := 1#32
  let v4076 : BitVec 32 := Scalar.muli v209 c1_i32_2913
  let v4077 : BitVec 32 := Scalar.addi c0_i32_2914 v4076
  v4077.toNat
def k0_dev56 (d0 : Dev nD) : Nat :=
  let c0_i32_2968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_2967 : BitVec 32 := 1#32
  let v4150 : BitVec 32 := Scalar.muli v209 c1_i32_2967
  let v4151 : BitVec 32 := Scalar.addi c0_i32_2968 v4150
  v4151.toNat
def k0_dev57 (d0 : Dev nD) : Nat :=
  let c0_i32_3022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3021 : BitVec 32 := 1#32
  let v4224 : BitVec 32 := Scalar.muli v209 c1_i32_3021
  let v4225 : BitVec 32 := Scalar.addi c0_i32_3022 v4224
  v4225.toNat
def k0_dev58 (d0 : Dev nD) : Nat :=
  let c0_i32_3076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3075 : BitVec 32 := 1#32
  let v4298 : BitVec 32 := Scalar.muli v209 c1_i32_3075
  let v4299 : BitVec 32 := Scalar.addi c0_i32_3076 v4298
  v4299.toNat
def k0_dev59 (d0 : Dev nD) : Nat :=
  let c0_i32_3129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3128 : BitVec 32 := 1#32
  let v4372 : BitVec 32 := Scalar.muli v153 c1_i32_3128
  let v4373 : BitVec 32 := Scalar.addi c0_i32_3129 v4372
  v4373.toNat
def k0_dev60 (d0 : Dev nD) : Nat :=
  let c0_i32_3183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3182 : BitVec 32 := 1#32
  let v4446 : BitVec 32 := Scalar.muli v153 c1_i32_3182
  let v4447 : BitVec 32 := Scalar.addi c0_i32_3183 v4446
  v4447.toNat
def k0_dev61 (d0 : Dev nD) : Nat :=
  let c0_i32_3237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3236 : BitVec 32 := 1#32
  let v4520 : BitVec 32 := Scalar.muli v153 c1_i32_3236
  let v4521 : BitVec 32 := Scalar.addi c0_i32_3237 v4520
  v4521.toNat
def k0_dev62 (d0 : Dev nD) : Nat :=
  let c0_i32_3291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3290 : BitVec 32 := 1#32
  let v4594 : BitVec 32 := Scalar.muli v153 c1_i32_3290
  let v4595 : BitVec 32 := Scalar.addi c0_i32_3291 v4594
  v4595.toNat
def k0_dev63 (d0 : Dev nD) : Nat :=
  let c0_i32_3345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3344 : BitVec 32 := 1#32
  let v4668 : BitVec 32 := Scalar.muli v209 c1_i32_3344
  let v4669 : BitVec 32 := Scalar.addi c0_i32_3345 v4668
  v4669.toNat
def k0_dev64 (d0 : Dev nD) : Nat :=
  let c0_i32_3399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3398 : BitVec 32 := 1#32
  let v4742 : BitVec 32 := Scalar.muli v209 c1_i32_3398
  let v4743 : BitVec 32 := Scalar.addi c0_i32_3399 v4742
  v4743.toNat
def k0_dev65 (d0 : Dev nD) : Nat :=
  let c0_i32_3453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3452 : BitVec 32 := 1#32
  let v4816 : BitVec 32 := Scalar.muli v209 c1_i32_3452
  let v4817 : BitVec 32 := Scalar.addi c0_i32_3453 v4816
  v4817.toNat
def k0_dev66 (d0 : Dev nD) : Nat :=
  let c0_i32_3507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3506 : BitVec 32 := 1#32
  let v4890 : BitVec 32 := Scalar.muli v209 c1_i32_3506
  let v4891 : BitVec 32 := Scalar.addi c0_i32_3507 v4890
  v4891.toNat
def k0_dev67 (d0 : Dev nD) : Nat :=
  let c0_i32_3561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3560 : BitVec 32 := 1#32
  let v4964 : BitVec 32 := Scalar.muli v153 c1_i32_3560
  let v4965 : BitVec 32 := Scalar.addi c0_i32_3561 v4964
  v4965.toNat
def k0_dev68 (d0 : Dev nD) : Nat :=
  let c0_i32_3615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3614 : BitVec 32 := 1#32
  let v5038 : BitVec 32 := Scalar.muli v153 c1_i32_3614
  let v5039 : BitVec 32 := Scalar.addi c0_i32_3615 v5038
  v5039.toNat
def k0_dev69 (d0 : Dev nD) : Nat :=
  let c0_i32_3669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3668 : BitVec 32 := 1#32
  let v5112 : BitVec 32 := Scalar.muli v153 c1_i32_3668
  let v5113 : BitVec 32 := Scalar.addi c0_i32_3669 v5112
  v5113.toNat
def k0_dev70 (d0 : Dev nD) : Nat :=
  let c0_i32_3723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3722 : BitVec 32 := 1#32
  let v5186 : BitVec 32 := Scalar.muli v153 c1_i32_3722
  let v5187 : BitVec 32 := Scalar.addi c0_i32_3723 v5186
  v5187.toNat
def k0_dev71 (d0 : Dev nD) : Nat :=
  let c0_i32_3777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3776 : BitVec 32 := 1#32
  let v5260 : BitVec 32 := Scalar.muli v209 c1_i32_3776
  let v5261 : BitVec 32 := Scalar.addi c0_i32_3777 v5260
  v5261.toNat
def k0_dev72 (d0 : Dev nD) : Nat :=
  let c0_i32_3831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3830 : BitVec 32 := 1#32
  let v5334 : BitVec 32 := Scalar.muli v209 c1_i32_3830
  let v5335 : BitVec 32 := Scalar.addi c0_i32_3831 v5334
  v5335.toNat
def k0_dev73 (d0 : Dev nD) : Nat :=
  let c0_i32_3885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3884 : BitVec 32 := 1#32
  let v5408 : BitVec 32 := Scalar.muli v209 c1_i32_3884
  let v5409 : BitVec 32 := Scalar.addi c0_i32_3885 v5408
  v5409.toNat
def k0_dev74 (d0 : Dev nD) : Nat :=
  let c0_i32_3939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_3938 : BitVec 32 := 1#32
  let v5482 : BitVec 32 := Scalar.muli v209 c1_i32_3938
  let v5483 : BitVec 32 := Scalar.addi c0_i32_3939 v5482
  v5483.toNat
def k0_dev75 (d0 : Dev nD) : Nat :=
  let c0_i32_3992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_3991 : BitVec 32 := 1#32
  let v5556 : BitVec 32 := Scalar.muli v153 c1_i32_3991
  let v5557 : BitVec 32 := Scalar.addi c0_i32_3992 v5556
  v5557.toNat
def k0_dev76 (d0 : Dev nD) : Nat :=
  let c0_i32_4046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4045 : BitVec 32 := 1#32
  let v5630 : BitVec 32 := Scalar.muli v153 c1_i32_4045
  let v5631 : BitVec 32 := Scalar.addi c0_i32_4046 v5630
  v5631.toNat
def k0_dev77 (d0 : Dev nD) : Nat :=
  let c0_i32_4100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4099 : BitVec 32 := 1#32
  let v5704 : BitVec 32 := Scalar.muli v153 c1_i32_4099
  let v5705 : BitVec 32 := Scalar.addi c0_i32_4100 v5704
  v5705.toNat
def k0_dev78 (d0 : Dev nD) : Nat :=
  let c0_i32_4154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4153 : BitVec 32 := 1#32
  let v5778 : BitVec 32 := Scalar.muli v153 c1_i32_4153
  let v5779 : BitVec 32 := Scalar.addi c0_i32_4154 v5778
  v5779.toNat
def k0_dev79 (d0 : Dev nD) : Nat :=
  let c0_i32_4208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4207 : BitVec 32 := 1#32
  let v5852 : BitVec 32 := Scalar.muli v209 c1_i32_4207
  let v5853 : BitVec 32 := Scalar.addi c0_i32_4208 v5852
  v5853.toNat
def k0_dev80 (d0 : Dev nD) : Nat :=
  let c0_i32_4262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4261 : BitVec 32 := 1#32
  let v5926 : BitVec 32 := Scalar.muli v209 c1_i32_4261
  let v5927 : BitVec 32 := Scalar.addi c0_i32_4262 v5926
  v5927.toNat
def k0_dev81 (d0 : Dev nD) : Nat :=
  let c0_i32_4316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4315 : BitVec 32 := 1#32
  let v6000 : BitVec 32 := Scalar.muli v209 c1_i32_4315
  let v6001 : BitVec 32 := Scalar.addi c0_i32_4316 v6000
  v6001.toNat
def k0_dev82 (d0 : Dev nD) : Nat :=
  let c0_i32_4370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4369 : BitVec 32 := 1#32
  let v6074 : BitVec 32 := Scalar.muli v209 c1_i32_4369
  let v6075 : BitVec 32 := Scalar.addi c0_i32_4370 v6074
  v6075.toNat
def k0_dev83 (d0 : Dev nD) : Nat :=
  let c0_i32_4423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4422 : BitVec 32 := 1#32
  let v6148 : BitVec 32 := Scalar.muli v153 c1_i32_4422
  let v6149 : BitVec 32 := Scalar.addi c0_i32_4423 v6148
  v6149.toNat
def k0_dev84 (d0 : Dev nD) : Nat :=
  let c0_i32_4477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4476 : BitVec 32 := 1#32
  let v6222 : BitVec 32 := Scalar.muli v153 c1_i32_4476
  let v6223 : BitVec 32 := Scalar.addi c0_i32_4477 v6222
  v6223.toNat
def k0_dev85 (d0 : Dev nD) : Nat :=
  let c0_i32_4531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4530 : BitVec 32 := 1#32
  let v6296 : BitVec 32 := Scalar.muli v153 c1_i32_4530
  let v6297 : BitVec 32 := Scalar.addi c0_i32_4531 v6296
  v6297.toNat
def k0_dev86 (d0 : Dev nD) : Nat :=
  let c0_i32_4585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4584 : BitVec 32 := 1#32
  let v6370 : BitVec 32 := Scalar.muli v153 c1_i32_4584
  let v6371 : BitVec 32 := Scalar.addi c0_i32_4585 v6370
  v6371.toNat
def k0_dev87 (d0 : Dev nD) : Nat :=
  let c0_i32_4639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4638 : BitVec 32 := 1#32
  let v6444 : BitVec 32 := Scalar.muli v209 c1_i32_4638
  let v6445 : BitVec 32 := Scalar.addi c0_i32_4639 v6444
  v6445.toNat
def k0_dev88 (d0 : Dev nD) : Nat :=
  let c0_i32_4693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4692 : BitVec 32 := 1#32
  let v6518 : BitVec 32 := Scalar.muli v209 c1_i32_4692
  let v6519 : BitVec 32 := Scalar.addi c0_i32_4693 v6518
  v6519.toNat
def k0_dev89 (d0 : Dev nD) : Nat :=
  let c0_i32_4747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4746 : BitVec 32 := 1#32
  let v6592 : BitVec 32 := Scalar.muli v209 c1_i32_4746
  let v6593 : BitVec 32 := Scalar.addi c0_i32_4747 v6592
  v6593.toNat
def k0_dev90 (d0 : Dev nD) : Nat :=
  let c0_i32_4801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_4800 : BitVec 32 := 1#32
  let v6666 : BitVec 32 := Scalar.muli v209 c1_i32_4800
  let v6667 : BitVec 32 := Scalar.addi c0_i32_4801 v6666
  v6667.toNat
def k0_dev91 (d0 : Dev nD) : Nat :=
  let c0_i32_4854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4853 : BitVec 32 := 1#32
  let v6740 : BitVec 32 := Scalar.muli v153 c1_i32_4853
  let v6741 : BitVec 32 := Scalar.addi c0_i32_4854 v6740
  v6741.toNat
def k0_dev92 (d0 : Dev nD) : Nat :=
  let c0_i32_4908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4907 : BitVec 32 := 1#32
  let v6814 : BitVec 32 := Scalar.muli v153 c1_i32_4907
  let v6815 : BitVec 32 := Scalar.addi c0_i32_4908 v6814
  v6815.toNat
def k0_dev93 (d0 : Dev nD) : Nat :=
  let c0_i32_4962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_4961 : BitVec 32 := 1#32
  let v6888 : BitVec 32 := Scalar.muli v153 c1_i32_4961
  let v6889 : BitVec 32 := Scalar.addi c0_i32_4962 v6888
  v6889.toNat
def k0_dev94 (d0 : Dev nD) : Nat :=
  let c0_i32_5016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5015 : BitVec 32 := 1#32
  let v6962 : BitVec 32 := Scalar.muli v153 c1_i32_5015
  let v6963 : BitVec 32 := Scalar.addi c0_i32_5016 v6962
  v6963.toNat
def k0_dev95 (d0 : Dev nD) : Nat :=
  let c0_i32_5070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5069 : BitVec 32 := 1#32
  let v7036 : BitVec 32 := Scalar.muli v209 c1_i32_5069
  let v7037 : BitVec 32 := Scalar.addi c0_i32_5070 v7036
  v7037.toNat
def k0_dev96 (d0 : Dev nD) : Nat :=
  let c0_i32_5124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5123 : BitVec 32 := 1#32
  let v7110 : BitVec 32 := Scalar.muli v209 c1_i32_5123
  let v7111 : BitVec 32 := Scalar.addi c0_i32_5124 v7110
  v7111.toNat
def k0_dev97 (d0 : Dev nD) : Nat :=
  let c0_i32_5178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5177 : BitVec 32 := 1#32
  let v7184 : BitVec 32 := Scalar.muli v209 c1_i32_5177
  let v7185 : BitVec 32 := Scalar.addi c0_i32_5178 v7184
  v7185.toNat
def k0_dev98 (d0 : Dev nD) : Nat :=
  let c0_i32_5232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5231 : BitVec 32 := 1#32
  let v7258 : BitVec 32 := Scalar.muli v209 c1_i32_5231
  let v7259 : BitVec 32 := Scalar.addi c0_i32_5232 v7258
  v7259.toNat
def k0_dev99 (d0 : Dev nD) : Nat :=
  let c0_i32_5285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5284 : BitVec 32 := 1#32
  let v7332 : BitVec 32 := Scalar.muli v153 c1_i32_5284
  let v7333 : BitVec 32 := Scalar.addi c0_i32_5285 v7332
  v7333.toNat
def k0_dev100 (d0 : Dev nD) : Nat :=
  let c0_i32_5339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5338 : BitVec 32 := 1#32
  let v7406 : BitVec 32 := Scalar.muli v153 c1_i32_5338
  let v7407 : BitVec 32 := Scalar.addi c0_i32_5339 v7406
  v7407.toNat
def k0_dev101 (d0 : Dev nD) : Nat :=
  let c0_i32_5393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5392 : BitVec 32 := 1#32
  let v7480 : BitVec 32 := Scalar.muli v153 c1_i32_5392
  let v7481 : BitVec 32 := Scalar.addi c0_i32_5393 v7480
  v7481.toNat
def k0_dev102 (d0 : Dev nD) : Nat :=
  let c0_i32_5447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5446 : BitVec 32 := 1#32
  let v7554 : BitVec 32 := Scalar.muli v153 c1_i32_5446
  let v7555 : BitVec 32 := Scalar.addi c0_i32_5447 v7554
  v7555.toNat
def k0_dev103 (d0 : Dev nD) : Nat :=
  let c0_i32_5501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5500 : BitVec 32 := 1#32
  let v7628 : BitVec 32 := Scalar.muli v209 c1_i32_5500
  let v7629 : BitVec 32 := Scalar.addi c0_i32_5501 v7628
  v7629.toNat
def k0_dev104 (d0 : Dev nD) : Nat :=
  let c0_i32_5555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5554 : BitVec 32 := 1#32
  let v7702 : BitVec 32 := Scalar.muli v209 c1_i32_5554
  let v7703 : BitVec 32 := Scalar.addi c0_i32_5555 v7702
  v7703.toNat
def k0_dev105 (d0 : Dev nD) : Nat :=
  let c0_i32_5609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5608 : BitVec 32 := 1#32
  let v7776 : BitVec 32 := Scalar.muli v209 c1_i32_5608
  let v7777 : BitVec 32 := Scalar.addi c0_i32_5609 v7776
  v7777.toNat
def k0_dev106 (d0 : Dev nD) : Nat :=
  let c0_i32_5663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5662 : BitVec 32 := 1#32
  let v7850 : BitVec 32 := Scalar.muli v209 c1_i32_5662
  let v7851 : BitVec 32 := Scalar.addi c0_i32_5663 v7850
  v7851.toNat
def k0_dev107 (d0 : Dev nD) : Nat :=
  let c0_i32_5716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5715 : BitVec 32 := 1#32
  let v7924 : BitVec 32 := Scalar.muli v153 c1_i32_5715
  let v7925 : BitVec 32 := Scalar.addi c0_i32_5716 v7924
  v7925.toNat
def k0_dev108 (d0 : Dev nD) : Nat :=
  let c0_i32_5770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5769 : BitVec 32 := 1#32
  let v7998 : BitVec 32 := Scalar.muli v153 c1_i32_5769
  let v7999 : BitVec 32 := Scalar.addi c0_i32_5770 v7998
  v7999.toNat
def k0_dev109 (d0 : Dev nD) : Nat :=
  let c0_i32_5824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5823 : BitVec 32 := 1#32
  let v8072 : BitVec 32 := Scalar.muli v153 c1_i32_5823
  let v8073 : BitVec 32 := Scalar.addi c0_i32_5824 v8072
  v8073.toNat
def k0_dev110 (d0 : Dev nD) : Nat :=
  let c0_i32_5878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_5877 : BitVec 32 := 1#32
  let v8146 : BitVec 32 := Scalar.muli v153 c1_i32_5877
  let v8147 : BitVec 32 := Scalar.addi c0_i32_5878 v8146
  v8147.toNat
def k0_dev111 (d0 : Dev nD) : Nat :=
  let c0_i32_5932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5931 : BitVec 32 := 1#32
  let v8220 : BitVec 32 := Scalar.muli v209 c1_i32_5931
  let v8221 : BitVec 32 := Scalar.addi c0_i32_5932 v8220
  v8221.toNat
def k0_dev112 (d0 : Dev nD) : Nat :=
  let c0_i32_5986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_5985 : BitVec 32 := 1#32
  let v8294 : BitVec 32 := Scalar.muli v209 c1_i32_5985
  let v8295 : BitVec 32 := Scalar.addi c0_i32_5986 v8294
  v8295.toNat
def k0_dev113 (d0 : Dev nD) : Nat :=
  let c0_i32_6040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6039 : BitVec 32 := 1#32
  let v8368 : BitVec 32 := Scalar.muli v209 c1_i32_6039
  let v8369 : BitVec 32 := Scalar.addi c0_i32_6040 v8368
  v8369.toNat
def k0_dev114 (d0 : Dev nD) : Nat :=
  let c0_i32_6094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6093 : BitVec 32 := 1#32
  let v8442 : BitVec 32 := Scalar.muli v209 c1_i32_6093
  let v8443 : BitVec 32 := Scalar.addi c0_i32_6094 v8442
  v8443.toNat
def k0_dev115 (d0 : Dev nD) : Nat :=
  let c0_i32_6147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_6146 : BitVec 32 := 1#32
  let v8516 : BitVec 32 := Scalar.muli v153 c1_i32_6146
  let v8517 : BitVec 32 := Scalar.addi c0_i32_6147 v8516
  v8517.toNat
def k0_dev116 (d0 : Dev nD) : Nat :=
  let c0_i32_6201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_6200 : BitVec 32 := 1#32
  let v8590 : BitVec 32 := Scalar.muli v153 c1_i32_6200
  let v8591 : BitVec 32 := Scalar.addi c0_i32_6201 v8590
  v8591.toNat
def k0_dev117 (d0 : Dev nD) : Nat :=
  let c0_i32_6255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_6254 : BitVec 32 := 1#32
  let v8664 : BitVec 32 := Scalar.muli v153 c1_i32_6254
  let v8665 : BitVec 32 := Scalar.addi c0_i32_6255 v8664
  v8665.toNat
def k0_dev118 (d0 : Dev nD) : Nat :=
  let c0_i32_6309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_6308 : BitVec 32 := 1#32
  let v8738 : BitVec 32 := Scalar.muli v153 c1_i32_6308
  let v8739 : BitVec 32 := Scalar.addi c0_i32_6309 v8738
  v8739.toNat
def k0_dev119 (d0 : Dev nD) : Nat :=
  let c0_i32_6363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6362 : BitVec 32 := 1#32
  let v8812 : BitVec 32 := Scalar.muli v209 c1_i32_6362
  let v8813 : BitVec 32 := Scalar.addi c0_i32_6363 v8812
  v8813.toNat
def k0_dev120 (d0 : Dev nD) : Nat :=
  let c0_i32_6417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6416 : BitVec 32 := 1#32
  let v8886 : BitVec 32 := Scalar.muli v209 c1_i32_6416
  let v8887 : BitVec 32 := Scalar.addi c0_i32_6417 v8886
  v8887.toNat
def k0_dev121 (d0 : Dev nD) : Nat :=
  let c0_i32_6471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6470 : BitVec 32 := 1#32
  let v8960 : BitVec 32 := Scalar.muli v209 c1_i32_6470
  let v8961 : BitVec 32 := Scalar.addi c0_i32_6471 v8960
  v8961.toNat
def k0_dev122 (d0 : Dev nD) : Nat :=
  let c0_i32_6525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6524 : BitVec 32 := 1#32
  let v9034 : BitVec 32 := Scalar.muli v209 c1_i32_6524
  let v9035 : BitVec 32 := Scalar.addi c0_i32_6525 v9034
  v9035.toNat
def k0_dev123 (d0 : Dev nD) : Nat :=
  let c0_i32_6578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_6577 : BitVec 32 := 1#32
  let v9108 : BitVec 32 := Scalar.muli v153 c1_i32_6577
  let v9109 : BitVec 32 := Scalar.addi c0_i32_6578 v9108
  v9109.toNat
def k0_dev124 (d0 : Dev nD) : Nat :=
  let c0_i32_6632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_45 : BitVec 32 := 1#32
  let v98 : BitVec 32 := Scalar.addi v97 c1_i32_45
  let c64_i32 : BitVec 32 := 64#32
  let v99 : BitVec 32 := Scalar.addi v98 c64_i32
  let c32_i32_46 : BitVec 32 := 32#32
  let v100 : BitVec 32 := Scalar.remsi v99 c32_i32_46
  let c16_i32_49 : BitVec 32 := 16#32
  let v103 : BitVec 1 := Scalar.cmpi .slt v100 c16_i32_49
  let c31_i32_50 : BitVec 32 := 31#32
  let v104 : BitVec 32 := Scalar.subi c31_i32_50 v100
  let v105 : BitVec 32 := Scalar.select v103 v100 v104
  let c0_i32_52 : BitVec 32 := 0#32
  let v107 : BitVec 1 := Scalar.cmpi .sgt v105 c0_i32_52
  let v108 : BitVec 32 := Scalar.extui v107
  let c0_i32_53 : BitVec 32 := 0#32
  let v109 : BitVec 1 := Scalar.cmpi .slt v105 c0_i32_53
  let v110 : BitVec 32 := Scalar.extui v109
  let v111 : BitVec 32 := Scalar.subi v108 v110
  let c4_i32_51 : BitVec 32 := 4#32
  let c0_i32_54 : BitVec 32 := 0#32
  let v112 : BitVec 1 := Scalar.cmpi .sgt c4_i32_51 c0_i32_54
  let v113 : BitVec 32 := Scalar.extui v112
  let c0_i32_55 : BitVec 32 := 0#32
  let v114 : BitVec 1 := Scalar.cmpi .slt c4_i32_51 c0_i32_55
  let v115 : BitVec 32 := Scalar.extui v114
  let v116 : BitVec 32 := Scalar.subi v113 v115
  let v117 : BitVec 1 := Scalar.cmpi .ne v111 v116
  let v118 : BitVec 32 := Scalar.remsi v105 c4_i32_51
  let c0_i32_56 : BitVec 32 := 0#32
  let v119 : BitVec 1 := Scalar.cmpi .ne v118 c0_i32_56
  let v120 : BitVec 1 := Scalar.andi v117 v119
  let v106 : BitVec 32 := Scalar.divsi v105 c4_i32_51
  let c1_i32_57 : BitVec 32 := 1#32
  let v121 : BitVec 32 := Scalar.subi v106 c1_i32_57
  let v122 : BitVec 32 := Scalar.select v120 v121 v106
  let c8_i32_76 : BitVec 32 := 8#32
  let v152 : BitVec 32 := Scalar.muli v122 c8_i32_76
  let c2_i32_67 : BitVec 32 := 2#32
  let c2_i32_59 : BitVec 32 := 2#32
  let c0_i32_60 : BitVec 32 := 0#32
  let v124 : BitVec 1 := Scalar.cmpi .eq c2_i32_59 c0_i32_60
  let c1_i32_61 : BitVec 32 := 1#32
  let v125 : BitVec 32 := Scalar.select v124 c1_i32_61 c2_i32_59
  let v126 : BitVec 32 := Scalar.remsi v122 v125
  let c0_i32_63 : BitVec 32 := 0#32
  let v128 : BitVec 1 := Scalar.cmpi .slt v126 c0_i32_63
  let c0_i32_64 : BitVec 32 := 0#32
  let v129 : BitVec 1 := Scalar.cmpi .slt v125 c0_i32_64
  let v130 : BitVec 1 := Scalar.xori v128 v129
  let c0_i32_62 : BitVec 32 := 0#32
  let v127 : BitVec 1 := Scalar.cmpi .ne v126 c0_i32_62
  let v131 : BitVec 1 := Scalar.andi v130 v127
  let v132 : BitVec 32 := Scalar.addi v126 v125
  let v133 : BitVec 32 := Scalar.select v131 v132 v126
  let c0_i32_65 : BitVec 32 := 0#32
  let v134 : BitVec 1 := Scalar.cmpi .eq v133 c0_i32_65
  let c4_i32_58 : BitVec 32 := 4#32
  let v123 : BitVec 32 := Scalar.remsi v105 c4_i32_58
  let c3_i32_66 : BitVec 32 := 3#32
  let v135 : BitVec 32 := Scalar.subi c3_i32_66 v123
  let v136 : BitVec 32 := Scalar.select v134 v123 v135
  let v137 : BitVec 32 := Scalar.muli c2_i32_67 v136
  let c2_i32_68 : BitVec 32 := 2#32
  let c0_i32_69 : BitVec 32 := 0#32
  let v138 : BitVec 1 := Scalar.cmpi .eq c2_i32_68 c0_i32_69
  let c1_i32_70 : BitVec 32 := 1#32
  let v139 : BitVec 32 := Scalar.select v138 c1_i32_70 c2_i32_68
  let v140 : BitVec 32 := Scalar.remsi v136 v139
  let c0_i32_72 : BitVec 32 := 0#32
  let v142 : BitVec 1 := Scalar.cmpi .slt v140 c0_i32_72
  let c0_i32_73 : BitVec 32 := 0#32
  let v143 : BitVec 1 := Scalar.cmpi .slt v139 c0_i32_73
  let v144 : BitVec 1 := Scalar.xori v142 v143
  let c0_i32_71 : BitVec 32 := 0#32
  let v141 : BitVec 1 := Scalar.cmpi .ne v140 c0_i32_71
  let v145 : BitVec 1 := Scalar.andi v144 v141
  let v146 : BitVec 32 := Scalar.addi v140 v139
  let v147 : BitVec 32 := Scalar.select v145 v146 v140
  let c0_i32_74 : BitVec 32 := 0#32
  let v148 : BitVec 1 := Scalar.cmpi .eq v147 c0_i32_74
  let c16_i32 : BitVec 32 := 16#32
  let v101 : BitVec 1 := Scalar.cmpi .slt v100 c16_i32
  let c0_i32_47 : BitVec 32 := 0#32
  let c1_i32_48 : BitVec 32 := 1#32
  let v102 : BitVec 32 := Scalar.select v101 c0_i32_47 c1_i32_48
  let c1_i32_75 : BitVec 32 := 1#32
  let v149 : BitVec 32 := Scalar.subi c1_i32_75 v102
  let v150 : BitVec 32 := Scalar.select v148 v102 v149
  let v151 : BitVec 32 := Scalar.addi v137 v150
  let v153 : BitVec 32 := Scalar.addi v152 v151
  let c1_i32_6631 : BitVec 32 := 1#32
  let v9182 : BitVec 32 := Scalar.muli v153 c1_i32_6631
  let v9183 : BitVec 32 := Scalar.addi c0_i32_6632 v9182
  v9183.toNat
def k0_dev125 (d0 : Dev nD) : Nat :=
  let c0_i32_6686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6685 : BitVec 32 := 1#32
  let v9256 : BitVec 32 := Scalar.muli v209 c1_i32_6685
  let v9257 : BitVec 32 := Scalar.addi c0_i32_6686 v9256
  v9257.toNat
def k0_dev126 (d0 : Dev nD) : Nat :=
  let c0_i32_6740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_44 : BitVec 32 := 0#32
  let v95 : BitVec 1 := Scalar.cmpi .eq v79 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v80 : BitVec 32 := Scalar.muli v19 c4_i32
  let c2_i32_37 : BitVec 32 := 2#32
  let c0_i32_38 : BitVec 32 := 0#32
  let v81 : BitVec 1 := Scalar.cmpi .eq c2_i32_37 c0_i32_38
  let c1_i32_39 : BitVec 32 := 1#32
  let v82 : BitVec 32 := Scalar.select v81 c1_i32_39 c2_i32_37
  let v83 : BitVec 32 := Scalar.remsi v19 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c0_i32_43 : BitVec 32 := 0#32
  let v91 : BitVec 1 := Scalar.cmpi .eq v90 c0_i32_43
  let c3_i32 : BitVec 32 := 3#32
  let v92 : BitVec 32 := Scalar.subi c3_i32 v46
  let v93 : BitVec 32 := Scalar.select v91 v46 v92
  let v94 : BitVec 32 := Scalar.addi v80 v93
  let c31_i32 : BitVec 32 := 31#32
  let v96 : BitVec 32 := Scalar.subi c31_i32 v94
  let v97 : BitVec 32 := Scalar.select v95 v94 v96
  let c1_i32_77 : BitVec 32 := 1#32
  let v154 : BitVec 32 := Scalar.subi v97 c1_i32_77
  let c64_i32_78 : BitVec 32 := 64#32
  let v155 : BitVec 32 := Scalar.addi v154 c64_i32_78
  let c32_i32_79 : BitVec 32 := 32#32
  let v156 : BitVec 32 := Scalar.remsi v155 c32_i32_79
  let c16_i32_83 : BitVec 32 := 16#32
  let v159 : BitVec 1 := Scalar.cmpi .slt v156 c16_i32_83
  let c31_i32_84 : BitVec 32 := 31#32
  let v160 : BitVec 32 := Scalar.subi c31_i32_84 v156
  let v161 : BitVec 32 := Scalar.select v159 v156 v160
  let c0_i32_86 : BitVec 32 := 0#32
  let v163 : BitVec 1 := Scalar.cmpi .sgt v161 c0_i32_86
  let v164 : BitVec 32 := Scalar.extui v163
  let c0_i32_87 : BitVec 32 := 0#32
  let v165 : BitVec 1 := Scalar.cmpi .slt v161 c0_i32_87
  let v166 : BitVec 32 := Scalar.extui v165
  let v167 : BitVec 32 := Scalar.subi v164 v166
  let c4_i32_85 : BitVec 32 := 4#32
  let c0_i32_88 : BitVec 32 := 0#32
  let v168 : BitVec 1 := Scalar.cmpi .sgt c4_i32_85 c0_i32_88
  let v169 : BitVec 32 := Scalar.extui v168
  let c0_i32_89 : BitVec 32 := 0#32
  let v170 : BitVec 1 := Scalar.cmpi .slt c4_i32_85 c0_i32_89
  let v171 : BitVec 32 := Scalar.extui v170
  let v172 : BitVec 32 := Scalar.subi v169 v171
  let v173 : BitVec 1 := Scalar.cmpi .ne v167 v172
  let v174 : BitVec 32 := Scalar.remsi v161 c4_i32_85
  let c0_i32_90 : BitVec 32 := 0#32
  let v175 : BitVec 1 := Scalar.cmpi .ne v174 c0_i32_90
  let v176 : BitVec 1 := Scalar.andi v173 v175
  let v162 : BitVec 32 := Scalar.divsi v161 c4_i32_85
  let c1_i32_91 : BitVec 32 := 1#32
  let v177 : BitVec 32 := Scalar.subi v162 c1_i32_91
  let v178 : BitVec 32 := Scalar.select v176 v177 v162
  let c8_i32_110 : BitVec 32 := 8#32
  let v208 : BitVec 32 := Scalar.muli v178 c8_i32_110
  let c2_i32_101 : BitVec 32 := 2#32
  let c2_i32_93 : BitVec 32 := 2#32
  let c0_i32_94 : BitVec 32 := 0#32
  let v180 : BitVec 1 := Scalar.cmpi .eq c2_i32_93 c0_i32_94
  let c1_i32_95 : BitVec 32 := 1#32
  let v181 : BitVec 32 := Scalar.select v180 c1_i32_95 c2_i32_93
  let v182 : BitVec 32 := Scalar.remsi v178 v181
  let c0_i32_97 : BitVec 32 := 0#32
  let v184 : BitVec 1 := Scalar.cmpi .slt v182 c0_i32_97
  let c0_i32_98 : BitVec 32 := 0#32
  let v185 : BitVec 1 := Scalar.cmpi .slt v181 c0_i32_98
  let v186 : BitVec 1 := Scalar.xori v184 v185
  let c0_i32_96 : BitVec 32 := 0#32
  let v183 : BitVec 1 := Scalar.cmpi .ne v182 c0_i32_96
  let v187 : BitVec 1 := Scalar.andi v186 v183
  let v188 : BitVec 32 := Scalar.addi v182 v181
  let v189 : BitVec 32 := Scalar.select v187 v188 v182
  let c0_i32_99 : BitVec 32 := 0#32
  let v190 : BitVec 1 := Scalar.cmpi .eq v189 c0_i32_99
  let c4_i32_92 : BitVec 32 := 4#32
  let v179 : BitVec 32 := Scalar.remsi v161 c4_i32_92
  let c3_i32_100 : BitVec 32 := 3#32
  let v191 : BitVec 32 := Scalar.subi c3_i32_100 v179
  let v192 : BitVec 32 := Scalar.select v190 v179 v191
  let v193 : BitVec 32 := Scalar.muli c2_i32_101 v192
  let c2_i32_102 : BitVec 32 := 2#32
  let c0_i32_103 : BitVec 32 := 0#32
  let v194 : BitVec 1 := Scalar.cmpi .eq c2_i32_102 c0_i32_103
  let c1_i32_104 : BitVec 32 := 1#32
  let v195 : BitVec 32 := Scalar.select v194 c1_i32_104 c2_i32_102
  let v196 : BitVec 32 := Scalar.remsi v192 v195
  let c0_i32_106 : BitVec 32 := 0#32
  let v198 : BitVec 1 := Scalar.cmpi .slt v196 c0_i32_106
  let c0_i32_107 : BitVec 32 := 0#32
  let v199 : BitVec 1 := Scalar.cmpi .slt v195 c0_i32_107
  let v200 : BitVec 1 := Scalar.xori v198 v199
  let c0_i32_105 : BitVec 32 := 0#32
  let v197 : BitVec 1 := Scalar.cmpi .ne v196 c0_i32_105
  let v201 : BitVec 1 := Scalar.andi v200 v197
  let v202 : BitVec 32 := Scalar.addi v196 v195
  let v203 : BitVec 32 := Scalar.select v201 v202 v196
  let c0_i32_108 : BitVec 32 := 0#32
  let v204 : BitVec 1 := Scalar.cmpi .eq v203 c0_i32_108
  let c16_i32_80 : BitVec 32 := 16#32
  let v157 : BitVec 1 := Scalar.cmpi .slt v156 c16_i32_80
  let c0_i32_81 : BitVec 32 := 0#32
  let c1_i32_82 : BitVec 32 := 1#32
  let v158 : BitVec 32 := Scalar.select v157 c0_i32_81 c1_i32_82
  let c1_i32_109 : BitVec 32 := 1#32
  let v205 : BitVec 32 := Scalar.subi c1_i32_109 v158
  let v206 : BitVec 32 := Scalar.select v204 v158 v205
  let v207 : BitVec 32 := Scalar.addi v193 v206
  let v209 : BitVec 32 := Scalar.addi v208 v207
  let c1_i32_6739 : BitVec 32 := 1#32
  let v9330 : BitVec 32 := Scalar.muli v209 c1_i32_6739
  let v9331 : BitVec 32 := Scalar.addi c0_i32_6740 v9330
  v9331.toNat
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S24576x384 : Shape := ⟨2, ![24576, 384]⟩
abbrev S384x768 : Shape := ⟨2, ![384, 768]⟩
abbrev S24576x768 : Shape := ⟨2, ![24576, 768]⟩

abbrev nBuf : Space → Nat
  | .hbm => 4
  | .vmem => 0
  | .smem => 0
  | _ => 0

abbrev bufTy : (tb : Table) → Fin (tcTables nBuf tb) → BufTy
  | .hbm, ⟨0, _⟩ => ⟨S24576x384, .bf16⟩
  | .hbm, ⟨1, _⟩ => ⟨S384x768, .bf16⟩
  | .hbm, ⟨2, _⟩ => ⟨S24576x768, .f32⟩
  | .hbm, ⟨3, _⟩ => ⟨S24576x768, .bf16⟩
  | _, _ => ⟨S24576x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ops.lean ====
module

public import proofs.«01_k».proof.Proof.Gen.KernelIdeal
public import Idealize.ShloMosaic.Lib.Pipeline.Regions

@[expose] public section

noncomputable section

namespace Cert.KernelIdeal

open Idealize.ShloMosaic Idealize.ShloMosaic.TcCoe Idealize.SL.Sem

variable {F : FTy → Type} [FloatOps F]

/-! ## The transfers, numbered

A direction of the ring makes 62 transfers; the number of one says its hop and its quarter of a block. The
directions are `false` (to the next device) and `true` (to the previous one). -/

/-- The hop of transfer `i`: how far along the ring the block it moves has come already. -/
def hop (i : Fin 62) : ℕ := i.val / 4

/-- The quarter of the block that transfer `i` moves. The last hop takes two quarters each way: the first
two go forwards and the last two backwards. -/
def qtr : Bool → Fin 62 → ℕ
  | false, i => i.val % 4
  | true, i => if i.val < 60 then i.val % 4 else i.val % 4 + 2

/-- The semaphore of each transfer lies in its array. -/
theorem slot_inb : ∀ (b : Bool) (i : Fin 62) (a : Fin 2), (![hop i, qtr b i] : Fin 2 → ℕ) a + S1x1.size a ≤ S16x4.size a := by
  decide +kernel

/-- Each quarter of the scratch lies in it. -/
theorem quarter_inb : ∀ (j : Fin 4) (a : Fin 2), (![192 * j.val, 0] : Fin 2 → ℕ) a + S192x768.size a ≤ S768x768.size a := by
  decide +kernel

/-- A quarter of the scratch is a whole number of 32-bit words. -/
theorem quarter_words (j : Fin 4) :
    (Rect.unit (s := S768x768) ![192 * j.val, 0] S192x768.size (quarter_inb j)).WholeWords (EltTy.packing .bf16) := by
  revert j; decide +kernel

/-- The semaphore of transfer `i` in the array `A`. -/
def semAt (A : DmaSems sig S16x4) (b : Bool) (i : Fin 62) : DmaSem sig :=
  ((A.slice (Rect.unit (s := S16x4) ![hop i, qtr b i] S1x1.size (slot_inb b i))).squeeze S_ Gen.squeezes_S1x1_S_).sem

/-- The semaphore that transfer `i` raises where it left. -/
def sndSem : Bool → Fin 62 → DmaSem sig
  | false, i => semAt cc0_scratch2 false i
  | true, i => semAt cc0_scratch4 true i

/-- The semaphore that transfer `i` raises where it lands. -/
def rcvSem : Bool → Fin 62 → DmaSem sig
  | false, i => semAt cc0_scratch3 false i
  | true, i => semAt cc0_scratch5 true i

/-- The neighbour that the transfers of a direction go to. -/
def nbr : Bool → Dev nD → Dev nD
  | false, d => ⟨k0_dev2 d, Gen.k0_dev2_lt d⟩
  | true, d => ⟨k0_dev1 d, Gen.k0_dev1_lt d⟩

/-- The first row and column, in the result, of what device `d` sends with transfer `i`. -/
def offAt : Bool → Dev nD → Fin 62 → Fin 2 → ℕ
  | false, d, i => k0_off2 d (k0_off2_at i).1 (k0_off2_at i).2
  | true, d, i => k0_off3 d (k0_off3_at i).1 (k0_off3_at i).2

/-- What a transfer moves lies in the result. -/
theorem offAt_inb : ∀ (b : Bool) (d : Dev nD) (i : Fin 62) (a : Fin 2), offAt b d i a + S192x768.size a ≤ S24576x768.size a
  | false, d, i => Gen.k0_off2_inb d i
  | true, d, i => Gen.k0_off3_inb d i

/-- What a transfer moves is a whole number of 32-bit words. -/
theorem offAt_words : ∀ (b : Bool) (d : Dev nD) (i : Fin 62),
    (Rect.unit (s := S24576x768) (offAt b d i) S192x768.size (offAt_inb b d i)).WholeWords (EltTy.packing .bf16)
  | false, d, i => Gen.k0_off2_wordsbf16 d i
  | true, d, i => Gen.k0_off3_wordsbf16 d i

/-- The rows of the result that device `d` sends with transfer `i`; they land at the same rows. -/
abbrev outAt (b : Bool) (d : Dev nD) (i : Fin 62) : Memref sig .tc .hbm S192x768 .bf16 :=
  (Memref.whole main_v1).slice (Rect.unit (s := S24576x768) (offAt b d i) S192x768.size (offAt_inb b d i)) (fun _ => rfl)

/-- The rows of the result that are device `d`'s own product. -/
abbrev ownAt (d : Dev nD) : Memref sig .tc .hbm S768x768 .bf16 :=
  (Memref.whole main_v1).slice (Rect.unit (s := S24576x768) (k0_off1 d) S768x768.size (Gen.k0_off1_inb d)) (fun _ => rfl)

/-- Quarter `j` of the scratch that holds the device's own product. -/
abbrev accAt (j : Fin 4) : Memref sig .tc .vmem S192x768 .bf16 :=
  (Memref.whole cc0_scratch0).slice (Rect.unit (s := S768x768) ![192 * j.val, 0] S192x768.size (quarter_inb j)) (fun _ => rfl)

/-- The scratch is a whole buffer. -/
theorem accWhole : (Memref.whole cc0_scratch0 : Memref sig .tc .vmem S768x768 .bf16).IsWhole := Memref.isWhole_whole _
/-- So is the result. -/
theorem outWhole : (Memref.whole main_v1 : Memref sig .tc .hbm S24576x768 .bf16).IsWhole := Memref.isWhole_whole _

/-- The rows of the result that a transfer moves can be moved word by word. -/
theorem outAt_wordExact (b : Bool) (d : Dev nD) (i : Fin 62) : (outAt b d i).view.WordExact :=
  outWhole.wordExact_slice rfl _ (offAt_words b d i)
/-- So can a quarter of the scratch. -/
theorem accAt_wordExact (j : Fin 4) : (accAt j).view.WordExact :=
  accWhole.wordExact_slice rfl _ (quarter_words j)

/-! ## The body as a list of steps -/

/-- The type of a kernel's program that returns nothing. -/
abbrev KProg (F : FTy → Type) [FloatOps F] : Type 1 := Prog (TpuEff nD τ sig (Elt F) Λ₀ .tc) PUnit

/-- A step of the exchange. A transfer is named by its direction and its number. -/
inductive Step where
  /-- start transfer `i` -/
  | send (b : Bool) (i : Fin 62)
  /-- wait for transfer `n` to land and send its rows on, as transfer `i` -/
  | relay (b : Bool) (n i : Fin 62)
  /-- wait for transfer `n` to land -/
  | land (b : Bool) (n : Fin 62)
  /-- wait until transfer `i` has been read -/
  | leave (b : Bool) (i : Fin 62)

/-- Transfer `i` of device `d` starts: the first four from the scratch, the others from the result. -/
def sendProg (d : Dev nD) (b : Bool) (i : Fin 62) : KProg F :=
  if h : i.val < 4 then
    Prog.lift (.enqueueDma (accAt ⟨i.val, h⟩)
      (.remote (Dev.tc (nbr b d)) (outAt b d i) (.dma (sndSem b i))) (.dma (rcvSem b i))
      (accAt_wordExact ⟨i.val, h⟩) (outAt_wordExact b d i) ⟨⟨rfl, Or.inl rfl⟩, trivial⟩)
  else
    Prog.lift (.enqueueDma (outAt b d i)
      (.remote (Dev.tc (nbr b d)) (outAt b d i) (.dma (sndSem b i))) (.dma (rcvSem b i))
      (outAt_wordExact b d i) (outAt_wordExact b d i) ⟨⟨rfl, Or.inl rfl⟩, trivial⟩)

/-- Transfer `n` to device `d` lands. -/
def landProg (d : Dev nD) (b : Bool) (n : Fin 62) : KProg F :=
  if h : n.val < 4 then
    Prog.lift (.waitDma2 (rcvSem b n) (accAt ⟨n.val, h⟩) (outAt b d n) (accAt_wordExact ⟨n.val, h⟩) (outAt_wordExact b d n))
  else
    Prog.lift (.waitDma2 (rcvSem b n) (outAt b d n) (outAt b d n) (outAt_wordExact b d n) (outAt_wordExact b d n))

/-- Transfer `i` of device `d` has been read. -/
def leaveProg (d : Dev nD) (b : Bool) (i : Fin 62) : KProg F :=
  if h : i.val < 4 then
    Prog.lift (.waitDma2 (sndSem b i) (outAt b d i) (accAt ⟨i.val, h⟩) (outAt_wordExact b d i) (accAt_wordExact ⟨i.val, h⟩))
  else
    Prog.lift (.waitDma2 (sndSem b i) (outAt b d i) (outAt b d i) (outAt_wordExact b d i) (outAt_wordExact b d i))

/-- The steps of a list on device `d`, one after another, and then `k`. -/
def runSteps (d : Dev nD) : List Step → KProg F → KProg F
  | [], k => k
  | .send b i :: ss, k => (sendProg d b i).bind fun _ => runSteps d ss k
  | .relay b n i :: ss, k => (landProg d b n).bind fun _ => (sendProg d b i).bind fun _ => runSteps d ss k
  | .land b n :: ss, k => (landProg d b n).bind fun _ => runSteps d ss k
  | .leave b i :: ss, k => (leaveProg d b i).bind fun _ => runSteps d ss k

/-- Both directions' transfers of the device's own product. -/
def firsts : List Step := [.send false 0, .send false 1, .send false 2, .send false 3, .send true 0, .send true 1, .send true 2, .send true 3]

/-- The relays in order: hop by hop, forwards and then backwards, and the half blocks of the last hop. -/
def relays : List Step :=
  ((List.range 14).flatMap fun h => [false, true].flatMap fun b => (List.range 4).map fun j =>
      .relay b (Fin.ofNat 62 (4 * h + j)) (Fin.ofNat 62 (4 * h + j + 4)))
    ++ [.relay false 56 60, .relay false 57 61, .relay true 58 60, .relay true 59 61]

/-- The last landings, which are not sent on. -/
def lasts : List Step :=
  [.land false 58, .land false 59, .land false 60, .land false 61, .land true 56, .land true 57, .land true 60, .land true 61]

/-- The departures. -/
def departs : List Step := [false, true].flatMap fun b => (List.range 62).map fun n => .leave b (Fin.ofNat 62 n)

/-- The exchange, up to the departures. -/
def exchange : List Step := firsts ++ relays ++ lasts

/-- The barrier semaphore. -/
def barSem : Sem sig := (SemArray.scalar (sig.barrier 0 rfl) : Sems sig S_).sem

/-- The value stored in the scratch: the product of the two staged operands, rounded. -/
def prod (a : Vec F S768x384 .bf16) (b : Vec F S384x768 .bf16) : FVec F S768x768 .bf16 :=
  shapeCast S768x768 (truncf .bf16 (matmul dot_S768x384_S384x768_S768x768_1_0_0_1_n_n none
    (shapeCast S768x384 a Gen.shapeCasts_S768x384_S768x384) (shapeCast S384x768 b Gen.shapeCasts_S384x768_S384x768)
    (constant S768x768 .f32 0x00000000#32)) Gen.bitsLt_bf16_f32) Gen.shapeCasts_S768x768_S768x768

/-- The body, its address arithmetic gone: the product, the copy of it to its rows of the result, the barrier with the two neighbours, the exchange, and the wait for the copy. -/
def flat (arg0 : Memref sig .tc .vmem S768x384 .bf16) (arg1 : Memref sig .tc .vmem S384x768 .bf16) : KProg F :=
  (Prog.lift .deviceId).bind fun d =>
  (Prog.lift (.load arg0 (Rect.unit (s := S768x384) ![0, 0] S768x384.size Gen.inb_S768x384_S768x384_0_0).toLoadRect (View.loadsAt_vmem Gen.h_S768x384))).bind fun (a : Vec F S768x384 .bf16) =>
  (Prog.lift (.load arg1 (Rect.unit (s := S384x768) ![0, 0] S384x768.size Gen.inb_S384x768_S384x768_0_0).toLoadRect (View.loadsAt_vmem Gen.h_S384x768))).bind fun (b : Vec F S384x768 .bf16) =>
  (Prog.lift (.load (Memref.whole cc0_scratch0 : Memref sig .tc .vmem S768x768 .bf16) (Rect.unit (s := S768x768) ![0, 0] S768x768.size Gen.inb_S768x768_S768x768_0_0).toLoadRect (View.loadsAt_vmem Gen.h_S768x768))).bind fun (_ : Vec F S768x768 .bf16) =>
  (Prog.lift (.store (Memref.whole cc0_scratch0 : Memref sig .tc .vmem S768x768 .bf16) (Rect.unit (s := S768x768) ![0, 0] S768x768.size Gen.inb_S768x768_S768x768_0_0) (prod a b) Finset.univ
    (View.stores_vmem Gen.h_S768x768 (accWhole.storeExact_slice rfl _ Gen.packedbf16_S768x768_S768x768_0_0) (fun _ => rfl)) (.inl rfl))).bind fun _ =>
  (Prog.lift (.enqueueDma (Memref.whole cc0_scratch0 : Memref sig .tc .vmem S768x768 .bf16) (.here (ownAt d)) (.dma cc0_scratch1.sem) accWhole.wordExact
    (outWhole.wordExact_slice rfl _ (Gen.k0_off1_wordsbf16 d)) ⟨Or.inl rfl, trivial⟩)).bind fun _ =>
  (semSignalWord (nbr true d) barSem 1#32).bind fun _ =>
  (semSignalWord (nbr false d) barSem 1#32).bind fun _ =>
  (semWaitWord barSem 2#32).bind fun _ =>
  runSteps d exchange <| runSteps d departs
    (Prog.lift (.waitDma2 cc0_scratch1.sem (Memref.whole cc0_scratch0 : Memref sig .tc .vmem S768x768 .bf16) (ownAt d) accWhole.wordExact
      (outWhole.wordExact_slice rfl _ (Gen.k0_off1_wordsbf16 d))))

/-- The printed body is `flat`. -/
theorem body_eq (arg0 : Memref sig .tc .vmem S768x384 .bf16) (h0 : arg0.IsWhole) (arg1 : Memref sig .tc .vmem S384x768 .bf16) (h1 : arg1.IsWhole) :
    cc0_body (F := F) arg0 h0 arg1 h1 (Memref.whole main_v1) (Memref.isWhole_whole _) (Memref.whole cc0_scratch0) (Memref.isWhole_whole _)
      cc0_scratch1 cc0_scratch2 cc0_scratch3 cc0_scratch4 cc0_scratch5 = flat arg0 arg1 := by
  chain_rfl

end Cert.KernelIdeal
-- ==== Proof.Ring.lean ====
module

public import proofs.«01_k».proof.Proof.Ops
public import Mathlib.Data.Fin.VecNotation
public import Mathlib.Data.ZMod.Defs

@[expose] public section

noncomputable section

namespace Cert.KernelIdeal

open Idealize.ShloMosaic Idealize.ShloMosaic.TcCoe
open scoped Fin.CommRing

/-! ## The ring

The thirty-two devices in the order in which the ring visits them, and each device's position in it. -/

/-- The device at position `n` of the ring. -/
def devAt (n : Fin 32) : Dev nD :=
  (![0, 3, 4, 7, 15, 12, 11, 8, 16, 19, 20, 23, 31, 28, 27, 24, 25, 26, 29, 30, 22, 21, 18, 17, 9, 10, 13, 14, 6, 5, 2, 1] : Fin 32 → Fin 32) n

/-- The position of device `d` in the ring. -/
def posOf (d : Dev nD) : Fin 32 :=
  (![0, 31, 30, 1, 2, 29, 28, 3, 7, 24, 25, 6, 5, 26, 27, 4, 8, 23, 22, 9, 10, 21, 20, 11, 15, 16, 17, 14, 13, 18, 19, 12] : Fin 32 → Fin 32) d

/-- The device at position `n` has position `n`. -/
theorem posOf_devAt : ∀ n, posOf (devAt n) = n := by decide +kernel
/-- The device at the position of `d` is `d`. -/
theorem devAt_posOf : ∀ d, devAt (posOf d) = d := by decide +kernel

/-- One step along the ring in a direction. -/
def dirStep : Bool → Fin 32
  | false => 1
  | true => 31

/-- A neighbour is one position away. -/
theorem nbr_eq : ∀ b d, nbr b d = devAt (posOf d + dirStep b) := by decide +kernel

/-- The neighbour's position is one step on. -/
theorem posOf_nbr (b : Bool) (d : Dev nD) : posOf (nbr b d) = posOf d + dirStep b := by rw [nbr_eq, posOf_devAt]

/-- The steps of the two directions cancel. -/
theorem dirStep_not : ∀ b, dirStep b + dirStep (!b) = 0 := by decide

/-- A step one way and a step the other way return. -/
theorem nbr_nbr_not (b : Bool) (d : Dev nD) : nbr b (nbr (!b) d) = d := by
  rw [nbr_eq, posOf_nbr, add_assoc, add_comm (dirStep !b), dirStep_not, add_zero, devAt_posOf]

/-- A step one way and a step back return, the other way round. -/
theorem nbr_not_nbr (b : Bool) (d : Dev nD) : nbr (!b) (nbr b d) = d := by
  have := nbr_nbr_not (!b) d; rwa [Bool.not_not] at this

/-- The steps along the ring as permutations of the devices. -/
def ring (b : Bool) : Dev nD ≃ Dev nD := ⟨nbr b, nbr (!b), nbr_not_nbr b, nbr_nbr_not b⟩

/-- The device whose block reaches `d` after `n` hops in direction `b`. -/
def org (b : Bool) (n : ℕ) (d : Dev nD) : Dev nD := devAt (posOf d + Fin.ofNat 32 n * dirStep (!b))

/-- After no hop a block is where it was computed. -/
theorem org_zero (b : Bool) (d : Dev nD) : org b 0 d = d := by
  unfold org; rw [show Fin.ofNat 32 0 = 0 from rfl, zero_mul, add_zero, devAt_posOf]

/-- Positions are counted round the ring. -/
theorem ofNat_succ (n : ℕ) : Fin.ofNat 32 (n + 1) = Fin.ofNat 32 n + 1 := by
  apply Fin.ext; simp [Fin.ofNat, Fin.val_add]

/-- What reaches the neighbour after one hop more is what reached the device. -/
theorem org_succ_nbr (b : Bool) (n : ℕ) (d : Dev nD) : org b (n + 1) (nbr b d) = org b n d := by
  unfold org
  rw [posOf_nbr, ofNat_succ, add_mul, one_mul, add_assoc, add_comm (dirStep b), add_assoc, add_comm (dirStep !b), dirStep_not, add_zero]

/-- What the previous device relays at a hop is what this device relays at the next. -/
theorem org_nbr_not (b : Bool) (n : ℕ) (d : Dev nD) : org b n (nbr (!b) d) = org b (n + 1) d := by
  have := org_succ_nbr b n (nbr (!b) d); rw [nbr_nbr_not] at this; exact this.symm

/-- There are four quarters. -/
theorem qtr_lt : ∀ b i, qtr b i < 4 := by decide +kernel

/-- The quarter of transfer `i`, as an index. -/
def qt (b : Bool) (i : Fin 62) : Fin 4 := ⟨qtr b i, qtr_lt b i⟩

/-- The rows that transfer `i` moves are a quarter of the block of the device it comes from. -/
theorem offAt_eq : ∀ b d i, offAt b d i = ![768 * (org b (hop i) d).val + 192 * (qt b i).val, 0] := by decide +kernel

/-! ## Which quarter of which block lands with which transfer -/

/-- The quarter, of all the devices' blocks, that lands on device `d` with transfer `i`. -/
def slot (d : Dev nD) (p : Bool × Fin 62) : Dev nD × Fin 4 := (org p.1 (hop p.2 + 1) d, qt p.1 p.2)

/-- The same with the device told by its distance along the ring. -/
def relSlot (p : Bool × Fin 62) : Fin 32 × Fin 4 := (Fin.ofNat 32 (hop p.2 + 1) * dirStep (!p.1), qt p.1 p.2)

/-- A landing, by its distance along the ring and its quarter. -/
theorem slot_eq (d : Dev nD) (p : Bool × Fin 62) : slot d p = (devAt (posOf d + (relSlot p).1), (relSlot p).2) := rfl

/-- Two transfers do not land at the same distance and quarter. -/
theorem relSlot_injective : Function.Injective relSlot := by
  have h : ∀ b i b' i', relSlot (b, i) = relSlot (b', i') → b = b' ∧ i = i' := by decide +kernel
  rintro ⟨b, i⟩ ⟨b', i'⟩ e
  obtain ⟨rfl, rfl⟩ := h b i b' i' e; rfl

/-- No transfer lands at a device's own rows. -/
theorem relSlot_ne_zero : ∀ b i, (relSlot (b, i)).1 ≠ 0 := by decide +kernel

/-- Every quarter of every other block is landed at. -/
theorem relSlot_surj : ∀ t : Fin 32, t ≠ 0 → ∀ j : Fin 4, ∃ b i, relSlot (b, i) = (t, j) := by decide +kernel

/-- Different positions have different devices. -/
theorem devAt_injective : Function.Injective devAt := fun a b h => by rw [← posOf_devAt a, h, posOf_devAt]

/-- No two transfers land at the same quarter. -/
theorem slot_injective (d : Dev nD) : Function.Injective (slot d) := by
  intro p p' h
  rw [slot_eq, slot_eq, Prod.mk.injEq] at h
  exact relSlot_injective (Prod.ext (add_left_cancel (devAt_injective h.1)) h.2)

/-- None lands in the device's own block. -/
theorem slot_ne_self (d : Dev nD) (p : Bool × Fin 62) : (slot d p).1 ≠ d := by
  intro h
  rw [slot_eq] at h
  have h' := congrArg posOf h
  rw [posOf_devAt] at h'
  exact relSlot_ne_zero p.1 p.2 (by simpa using h')

/-- Every quarter of every other block lands. -/
theorem slot_surj (d o : Dev nD) (ho : o ≠ d) (j : Fin 4) : ∃ p, slot d p = (o, j) := by
  obtain ⟨b, i, h⟩ := relSlot_surj (posOf o - posOf d) (fun h => ho (by
    rw [← devAt_posOf o, ← devAt_posOf d, sub_eq_zero.mp h])) j
  refine ⟨(b, i), ?_⟩
  rw [slot_eq, h]
  simp only [Prod.mk.injEq, and_true]
  rw [add_sub_cancel, devAt_posOf]

/-! ## The order of the exchange -/

/-- The transfer whose landing transfer `i` sends on, for `i` past the first four. -/
def pre (b : Bool) (i : Fin 62) : Fin 62 := if b = true ∧ 60 ≤ i.val then ⟨i.val - 2, by omega⟩ else ⟨i.val - 4, by omega⟩

/-- The transfer that a relay sends on came one hop earlier. -/
theorem hop_pre : ∀ (b : Bool) (i : Fin 62), 4 ≤ i.val → hop (pre b i) + 1 = hop i := by decide +kernel
/-- A relay sends on the quarter that it received. -/
theorem qt_pre : ∀ (b : Bool) (i : Fin 62), 4 ≤ i.val → qt b (pre b i) = qt b i := by decide +kernel
/-- The first four transfers move the device's own product. -/
theorem hop_first : ∀ i : Fin 62, i.val < 4 → hop i = 0 := by decide +kernel
/-- The first four transfers move the four quarters in order. -/
theorem qt_first : ∀ (b : Bool) (i : Fin 62), i.val < 4 → (qt b i).val = i.val := by decide +kernel

/-- The transfers that a list of steps starts, in order. -/
def sends : List Step → List (Bool × Fin 62)
  | [] => []
  | .send b i :: ss => (b, i) :: sends ss
  | .relay b _ i :: ss => (b, i) :: sends ss
  | .land _ _ :: ss => sends ss
  | .leave _ _ :: ss => sends ss

/-- The transfers whose landing it waits for. -/
def waited : List Step → List (Bool × Fin 62)
  | [] => []
  | .send _ _ :: ss => waited ss
  | .relay b n _ :: ss => (b, n) :: waited ss
  | .land b n :: ss => (b, n) :: waited ss
  | .leave _ _ :: ss => waited ss

/-- The transfers that have landed when it ends, and are not sent on. -/
def kept : List Step → List (Bool × Fin 62)
  | [] => []
  | .send _ _ :: ss => kept ss
  | .relay _ _ _ :: ss => kept ss
  | .land b n :: ss => (b, n) :: kept ss
  | .leave _ _ :: ss => kept ss

/-- The transfers whose departure it waits for. -/
def left : List Step → List (Bool × Fin 62)
  | [] => []
  | .send _ _ :: ss => left ss
  | .relay _ _ _ :: ss => left ss
  | .land _ _ :: ss => left ss
  | .leave b i :: ss => (b, i) :: left ss

/-- A list of steps is in order: the steps that start a transfer from the scratch are the first four of a direction, a
relay sends on what it waits for, and every transfer still to be started has come further than the one waited for. -/
def InOrder : List Step → Prop
  | [] => True
  | .send _ i :: ss => i.val < 4 ∧ InOrder ss
  | .relay b n i :: ss => (4 ≤ i.val ∧ n = pre b i ∧ (∀ p ∈ (b, i) :: sends ss, hop n < hop p.2)) ∧ InOrder ss
  | .land _ n :: ss => (∀ p ∈ sends ss, hop n < hop p.2) ∧ InOrder ss
  | .leave _ _ :: ss => sends ss = [] ∧ InOrder ss

/-- Being in order can be decided. -/
def InOrder.dec : (ss : List Step) → Decidable (InOrder ss)
  | [] => inferInstanceAs (Decidable True)
  | .send _ i :: ss => by
    have := InOrder.dec ss
    exact inferInstanceAs (Decidable (i.val < 4 ∧ InOrder ss))
  | .relay b n i :: ss => by
    have := InOrder.dec ss
    exact inferInstanceAs (Decidable ((4 ≤ i.val ∧ n = pre b i ∧ (∀ p ∈ (b, i) :: sends ss, hop n < hop p.2)) ∧ InOrder ss))
  | .land _ n :: ss => by
    have := InOrder.dec ss
    exact inferInstanceAs (Decidable ((∀ p ∈ sends ss, hop n < hop p.2) ∧ InOrder ss))
  | .leave _ _ :: ss => by
    have := InOrder.dec ss
    exact inferInstanceAs (Decidable (sends ss = [] ∧ InOrder ss))

instance (ss : List Step) : Decidable (InOrder ss) := InOrder.dec ss

/-- The exchange relays only what it has waited for, in order. -/
theorem exchange_inOrder : InOrder exchange := by decide +kernel
/-- So do the last waits. -/
theorem departs_inOrder : InOrder departs := by decide +kernel

/-- All transfers, those of the device's own product first. -/
def own8 : List (Bool × Fin 62) := sends firsts
/-- The transfers that send on what has landed. -/
def rest116 : List (Bool × Fin 62) := sends relays

/-- The exchange starts the transfers of the own product and then the rest. -/
theorem sends_exchange : sends exchange = own8 ++ rest116 := by decide +kernel
/-- It starts no transfer twice. -/
theorem sends_nodup : (sends exchange).Nodup := by decide +kernel
/-- It starts every transfer. -/
theorem sends_all : (sends exchange).toFinset = Finset.univ := by decide +kernel
/-- It waits for no transfer twice. -/
theorem waited_nodup : (waited exchange).Nodup := by decide +kernel
/-- It waits for every transfer to land. -/
theorem waited_all : (waited exchange).toFinset = Finset.univ := by decide +kernel
/-- It does not wait for a transfer to have been read. -/
theorem left_exchange : left exchange = [] := by decide +kernel
/-- The last waits wait for no transfer twice. -/
theorem left_nodup : (left departs).Nodup := by decide +kernel
/-- They wait for every transfer to have been read. -/
theorem left_all : (left departs).toFinset = Finset.univ := by decide +kernel
/-- They start no transfer. -/
theorem sends_departs : sends departs = [] := by decide +kernel
/-- They wait for no landing. -/
theorem waited_departs : waited departs = [] := by decide +kernel
/-- They keep no landing. -/
theorem kept_departs : kept departs = [] := by decide +kernel
/-- What has landed at the end: what was not sent on, and the sources of what was. -/
theorem landed_nodup : (kept exchange ++ rest116.map fun p => (p.1, pre p.1 p.2)).Nodup := by decide +kernel
/-- Every transfer's rows are there at the end. -/
theorem landed_all : (kept exchange ++ rest116.map fun p => (p.1, pre p.1 p.2)).toFinset = Finset.univ := by decide +kernel
/-- The transfers that relay are those after the first four of a direction. -/
theorem rest116_ge : ∀ p ∈ rest116, 4 ≤ p.2.val := by decide +kernel

/-! ## The semaphores, numbered -/

/-- The place of transfer `i` in an array of semaphores. -/
def place (b : Bool) (i : Fin 62) : ℕ := 4 * hop i + qtr b i

/-- A transfer's semaphore is one of 64. -/
theorem place_lt : ∀ b i, place b i < 64 := by decide +kernel

/-- The number of a semaphore of an array: `r` tells the landing ones. -/
theorem sndSem_val : ∀ b i, (sndSem b i).val = 3 + 128 * b.toNat + place b i := by decide +kernel
/-- The number of the semaphore that a transfer raises where it lands. -/
theorem rcvSem_val : ∀ b i, (rcvSem b i).val = 67 + 128 * b.toNat + place b i := by decide +kernel

end Cert.KernelIdeal
-- ==== Proof.Regions.lean ====
module

public import proofs.«01_k».proof.Proof.Ring
public import Idealize.ShloMosaic.Lib.Pipeline.Launch
public import Idealize.ShloMosaic.Lib.Pipeline.Kit
public import Idealize.ShloMosaic.Lib.Pipeline.BigSepL
public import Idealize.ShloMosaic.Lib.Pipeline.Value
public import Idealize.ShloMosaic.Lib.Tactic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange's semaphores, beside the launch's. -/
abbrev UB : Type := URounds (GSem nD τ sig) Bool
/-- The ghost state: the rounds of the staging buffers and those of the exchange. -/
abbrev UU : Type := UR sig nD τ × UB

local notation "𝕄" => MT nD τ sig Unit (Elt F) ℕ UU ℕ

/-! ## The rows of the result and of the scratch -/

/-- The rows of quarter `j` of device `o`'s block of the result. -/
def outRows (o : Dev nD) (j : Fin 4) : Finset S24576x768.Idx := Finset.univ.filter fun x => (x 0).val / 192 = 4 * o.val + j.val

/-- The rows of device `d`'s block of the result. -/
def ownRows (d : Dev nD) : Finset S24576x768.Idx := Finset.univ.filter fun x => (x 0).val / 768 = d.val

/-- The rows of quarter `j` of the scratch. -/
def accRows (j : Fin 4) : Finset S768x768.Idx := Finset.univ.filter fun x => (x 0).val / 192 = j.val

/-- A row lies in quarter `j` of block `o` when its 192 rows are the ones of that number. -/
theorem mem_outRows {o : Dev nD} {j : Fin 4} {x : S24576x768.Idx} : x ∈ outRows o j ↔ (x 0).val / 192 = 4 * o.val + j.val := by
  unfold outRows; rw [Finset.mem_filter]; exact ⟨fun h => h.2, fun h => ⟨Finset.mem_univ _, h⟩⟩
/-- A row lies in block `d` when its 768 rows are the ones of that number. -/
theorem mem_ownRows {d : Dev nD} {x : S24576x768.Idx} : x ∈ ownRows d ↔ (x 0).val / 768 = d.val := by
  unfold ownRows; rw [Finset.mem_filter]; exact ⟨fun h => h.2, fun h => ⟨Finset.mem_univ _, h⟩⟩
/-- A row of the scratch lies in quarter `j` when its 192 rows are the ones of that number. -/
theorem mem_accRows {j : Fin 4} {x : S768x768.Idx} : x ∈ accRows j ↔ (x 0).val / 192 = j.val := by
  unfold accRows; rw [Finset.mem_filter]; exact ⟨fun h => h.2, fun h => ⟨Finset.mem_univ _, h⟩⟩

/-- What a transfer moves are the rows of a quarter. -/
theorem outAt_set (b : Bool) (d : Dev nD) (i : Fin 62) : (outAt b d i).view.set = outRows (org b (hop i) d) (qt b i) := by
  show ((View.whole main_v1).slice (Rect.unit (s := S24576x768) (offAt b d i) S192x768.size (offAt_inb b d i))).set = _
  rw [View.set_slice_whole]
  ext x
  refine Rect.mem_set_unit.trans ?_
  refine Fin.forall_fin_two.trans ?_
  rw [mem_outRows, offAt_eq]
  have h1 : (x 1).val < 768 := (x 1).isLt
  simp only [Matrix.cons_val_zero, Matrix.cons_val_one, Nat.zero_le, true_and]
  show (_ ∧ _ < _ + 192) ∧ _ < 0 + 768 ↔ _
  omega

/-- What the copy writes are the rows of the device's own block. -/
theorem ownAt_set (d : Dev nD) : (ownAt d).view.set = ownRows d := by
  show ((View.whole main_v1).slice (Rect.unit (s := S24576x768) (k0_off1 d) S768x768.size (Gen.k0_off1_inb d))).set = _
  rw [View.set_slice_whole]
  ext x
  refine Rect.mem_set_unit.trans ?_
  refine Fin.forall_fin_two.trans ?_
  rw [mem_ownRows, Gen.k0_off1_eq]
  have h1 : (x 1).val < 768 := (x 1).isLt
  simp only [Matrix.cons_val_zero, Matrix.cons_val_one, Nat.zero_le, true_and]
  show (_ ∧ _ < _ + 768) ∧ _ < 0 + 768 ↔ _
  omega

/-- The elements of a quarter of the scratch are its rows. -/
theorem accAt_set (j : Fin 4) : (accAt j).view.set = accRows j := by
  show ((View.whole cc0_scratch0).slice (Rect.unit (s := S768x768) ![192 * j.val, 0] S192x768.size (quarter_inb j))).set = _
  rw [View.set_slice_whole]
  ext x
  refine Rect.mem_set_unit.trans ?_
  refine Fin.forall_fin_two.trans ?_
  rw [mem_accRows]
  have h1 : (x 1).val < 768 := (x 1).isLt
  simp only [Matrix.cons_val_zero, Matrix.cons_val_one, Nat.zero_le, true_and]
  show (_ ∧ _ < _ + 192) ∧ _ < 0 + 768 ↔ _
  omega

/-! ## The gathered product -/

/-- The row and column inside its block of a row and column of the result. -/
def inBlock (x : S24576x768.Idx) : S768x768.Idx
  | ⟨0, _⟩ => ⟨(x 0).val % 768, Nat.mod_lt _ (by decide)⟩
  | ⟨1, _⟩ => ⟨(x 1).val, (x 1).isLt⟩

/-- The block of a row of the result. -/
def blockOf (x : S24576x768.Idx) : Dev nD := ⟨(x 0).val / 768, by have : (x 0).val < 24576 := (x 0).isLt; show _ < 32; omega⟩

/-- The result whose block `d` is `P d`. -/
def gath (P : Dev nD → Vec F S768x768 .bf16) : Vec F S24576x768 .bf16 := fun x => P (blockOf x) (inBlock x)

/-- The gathered result at row `768 d + r` is row `r` of block `d`. -/
theorem gath_eq (P : Dev nD → Vec F S768x768 .bf16) (d : Dev nD) (y : S768x768.Idx) (x : S24576x768.Idx)
    (h0 : (x 0).val = 768 * d.val + (y 0).val) (h1 : (x 1).val = (y 1).val) : gath P x = P d y := by
  have hy : (y 0).val < 768 := (y 0).isLt
  have hb : blockOf x = d := Fin.ext (by show (x 0).val / 768 = d.val; omega)
  have hi : inBlock x = y := by
    funext a
    match a with
    | ⟨0, _⟩ => exact Fin.ext (by show (x 0).val % 768 = (y 0).val; omega)
    | ⟨1, _⟩ => exact Fin.ext h1
  unfold gath; rw [hb, hi]

/-- A quarter of the device's own product lands where the gathered product has it. -/
theorem landed_first (P : Dev nD → Vec F S768x768 .bf16) (b : Bool) (d : Dev nD) (i : Fin 62) (h : i.val < 4)
    (fd : S24576x768.Idx → Elt F .bf16) (x : S24576x768.Idx) (hx : x ∈ (outAt b d i).view.set) :
    (outAt b d i).view.write (Elt F) fd ((accAt ⟨i.val, h⟩).view.read (Elt F) (P d)) Finset.univ x = gath P x := by
  obtain ⟨y, rfl⟩ := View.exists_emb_of_mem_set _ hx
  rw [View.write_emb_of_mem _ _ (Finset.mem_univ _)]
  show P d ((accAt ⟨i.val, h⟩).view.emb y) = _
  refine (gath_eq P d _ _ ?_ ?_).symm
  · show offAt b d i 0 + 1 * (y 0).val = 768 * d.val + (192 * i.val + 1 * (y 0).val)
    rw [offAt_eq, hop_first i h, org_zero]
    show 768 * d.val + 192 * (qt b i).val + 1 * (y 0).val = _
    rw [qt_first b i h]; omega
  · show offAt b d i 1 + 1 * (y 1).val = 0 + 1 * (y 1).val
    rw [offAt_eq]; rfl

/-- The whole of it copied to its rows of the result is what the gathered product has there. -/
theorem landed_own (P : Dev nD → Vec F S768x768 .bf16) (d : Dev nD)
    (fd : S24576x768.Idx → Elt F .bf16) (x : S24576x768.Idx) (hx : x ∈ (ownAt d).view.set) :
    (ownAt d).view.write (Elt F) fd ((Memref.whole cc0_scratch0 : Memref sig .tc .vmem S768x768 .bf16).view.read (Elt F) (P d)) Finset.univ x = gath P x := by
  obtain ⟨y, rfl⟩ := View.exists_emb_of_mem_set _ hx
  rw [View.write_emb_of_mem _ _ (Finset.mem_univ _)]
  show P d y = _
  refine (gath_eq P d _ _ ?_ ?_).symm
  · show k0_off1 d 0 + 1 * (y 0).val = 768 * d.val + (y 0).val
    rw [Gen.k0_off1_eq, Nat.one_mul]; rfl
  · show k0_off1 d 1 + 1 * (y 1).val = (y 1).val
    rw [Gen.k0_off1_eq, Nat.one_mul]; exact Nat.zero_add _

/-- Rows of the gathered product sent on land as the gathered product has them. -/
theorem landed_fwd (P : Dev nD → Vec F S768x768 .bf16) (b : Bool) (d : Dev nD) (i : Fin 62)
    (fd : S24576x768.Idx → Elt F .bf16) (x : S24576x768.Idx) (hx : x ∈ (outAt b d i).view.set) :
    (outAt b d i).view.write (Elt F) fd ((outAt b d i).view.read (Elt F) (gath P)) Finset.univ x = gath P x := by
  obtain ⟨y, rfl⟩ := View.exists_emb_of_mem_set _ hx
  rw [View.write_emb_of_mem _ _ (Finset.mem_univ _)]
  rfl

/-! ## The buffers, held in parts -/

/-- Quarter `j` of device `o`'s block of the result, on device `c`, with contents `f`. -/
def outPts (c o : Dev nD) (j : Fin 4) (f : Vec F S24576x768 .bf16) : sProp 𝕄 :=
  (c : Thread nD τ).loc main_v1 ↦[outRows o j]{fullShare} f

/-- Device `c`'s own block of the result. -/
def ownPts (c : Dev nD) (f : Vec F S24576x768 .bf16) : sProp 𝕄 :=
  (c : Thread nD τ).loc main_v1 ↦[ownRows c]{fullShare} f

/-- A share of quarter `j` of the scratch. -/
def accPts (c : Dev nD) (q : PosShare TreeShare) (j : Fin 4) (f : Vec F S768x768 .bf16) : sProp 𝕄 :=
  (c : Thread nD τ).loc cc0_scratch0 ↦[accRows j]{q} f

omit [FloatOps F] in
/-- Holding rows of the result can be kept in an invariant. -/
instance outPts_storable (c o : Dev nD) (j : Fin 4) (f : Vec F S24576x768 .bf16) : BI.Storable (upEmb : UEmb _ 𝕄) (outPts c o j f) := by
  unfold outPts; infer_instance
omit [FloatOps F] in
/-- So can holding the device's own rows of it. -/
instance ownPts_storable (c : Dev nD) (f : Vec F S24576x768 .bf16) : BI.Storable (upEmb : UEmb _ 𝕄) (ownPts c f) := by
  unfold ownPts; infer_instance
omit [FloatOps F] in
/-- So can holding a quarter of the scratch. -/
instance accPts_storable (c : Dev nD) (q) (j : Fin 4) (f : Vec F S768x768 .bf16) : BI.Storable (upEmb : UEmb _ 𝕄) (accPts c q j f) := by
  unfold accPts; infer_instance

/-- The parts of the result on device `c`: its own block, and what lands with each transfer. -/
def part (c : Dev nD) : Unit ⊕ (Bool × Fin 62) → Finset S24576x768.Idx
  | .inl _ => ownRows c
  | .inr p => outRows (slot c p).1 (slot c p).2

/-- The landing that a row belongs to, from the row. -/
theorem slot_of_mem {c : Dev nD} {p : Bool × Fin 62} {x : S24576x768.Idx} (h : x ∈ outRows (slot c p).1 (slot c p).2) :
    slot c p = (blockOf x, ⟨(x 0).val / 192 % 4, Nat.mod_lt _ (by decide)⟩) := by
  rw [mem_outRows] at h
  have hj := (slot c p).2.isLt
  refine Prod.ext (Fin.ext ?_) (Fin.ext ?_)
  · show _ = (x 0).val / 768; omega
  · show _ = (x 0).val / 192 % 4; omega

/-- The own rows and the landings do not overlap. -/
theorem part_disjoint (c : Dev nD) (t t' : Unit ⊕ (Bool × Fin 62)) (h : t ≠ t') : Disjoint (part c t) (part c t') := by
  have own_slot : ∀ (p : Bool × Fin 62) (x : S24576x768.Idx), x ∈ ownRows c → x ∉ outRows (slot c p).1 (slot c p).2 := fun p x hx hp => by
    have h1 := congrArg Prod.fst (slot_of_mem hp)
    refine slot_ne_self c p (h1.trans (Fin.ext ?_))
    exact mem_ownRows.mp hx
  rw [Finset.disjoint_left]
  intro x hx hx'
  rcases t with _ | p <;> rcases t' with _ | p'
  · exact h rfl
  · exact own_slot p' x hx hx'
  · exact own_slot p x hx' hx
  · exact h (congrArg Sum.inr (slot_injective c ((slot_of_mem hx).trans (slot_of_mem hx').symm)))

/-- Together they are the whole result. -/
theorem part_cover (c : Dev nD) : Finset.univ.biUnion (part c) = Finset.univ := by
  refine Finset.eq_univ_of_forall fun x => ?_
  rw [Finset.mem_biUnion]
  by_cases h : blockOf x = c
  · exact ⟨.inl (), Finset.mem_univ _, mem_ownRows.mpr (congrArg Fin.val h)⟩
  · obtain ⟨p, hp⟩ := slot_surj c (blockOf x) h ⟨(x 0).val / 192 % 4, Nat.mod_lt _ (by decide)⟩
    refine ⟨.inr p, Finset.mem_univ _, ?_⟩
    show x ∈ outRows (slot c p).1 (slot c p).2
    rw [hp, mem_outRows]
    show (x 0).val / 192 = 4 * ((x 0).val / 768) + (x 0).val / 192 % 4
    omega

omit [FloatOps F] in
/-- The whole result is its parts. -/
theorem out_split (c : Dev nD) (f : Vec F S24576x768 .bf16) :
    ((c : Thread nD τ).loc main_v1 ↦{fullShare} f : sProp 𝕄)
      = iprop(ownPts c f ∗ bigSep Finset.univ fun p : Bool × Fin 62 => outPts c (slot c p).1 (slot c p).2 f) := by
  have h := pointsTo_biUnion (nD := nD) (τ := τ) (sig := sig) (Ix := Unit) (Val := Elt F) (Name := ℕ) (U := UU) (Lvl := ℕ) (q := fullShare)
    (ℓ := (c : Thread nD τ).loc main_v1) (f := f) Finset.univ (part c) (fun t _ t' _ h => part_disjoint c t t' h)
  rw [part_cover] at h
  rw [h, bigSep_univ_sum, bigSep_univ_of_subsingleton ()]
  rfl

omit [FloatOps F] in
/-- A share of the whole scratch is that share of its quarters. -/
theorem acc_split (c : Dev nD) (q : PosShare TreeShare) (f : Vec F S768x768 .bf16) :
    ((c : Thread nD τ).loc cc0_scratch0 ↦{q} f : sProp 𝕄) = bigSep Finset.univ fun j : Fin 4 => accPts c q j f := by
  have h := pointsTo_biUnion (nD := nD) (τ := τ) (sig := sig) (Ix := Unit) (Val := Elt F) (Name := ℕ) (U := UU) (Lvl := ℕ) (q := q)
    (ℓ := (c : Thread nD τ).loc cc0_scratch0) (f := f) Finset.univ accRows (fun j _ j' _ h => by
      rw [Finset.disjoint_left]
      intro x hx hx'
      exact h (Fin.ext ((mem_accRows.mp hx).symm.trans (mem_accRows.mp hx'))))
  rw [show Finset.univ.biUnion accRows = Finset.univ from by
    refine Finset.eq_univ_of_forall fun x => ?_
    rw [Finset.mem_biUnion]
    have hx : (x 0).val < 768 := (x 0).isLt
    exact ⟨⟨(x 0).val / 192, by omega⟩, Finset.mem_univ _, mem_accRows.mpr rfl⟩] at h
  exact h

/-- The share of the scratch that a direction's first transfers read. -/
def dirShare : Bool → PosShare TreeShare
  | false => fullShare.right.left
  | true => fullShare.right.right

/-- The transfers of the own product are four each way. -/
theorem own8_eq : own8 = (List.finRange 4).map (fun j => (false, Fin.castLE (by decide) j)) ++ (List.finRange 4).map (fun j => (true, Fin.castLE (by decide) j)) := by
  decide +kernel
/-- The first four transfers of a direction move the quarters of their number. -/
theorem qt_castLE : ∀ (b : Bool) (j : Fin 4), qt b (Fin.castLE (by decide) j) = j := by decide +kernel

omit [FloatOps F] in
/-- The scratch is the copy's share of it and the shares that the first transfers read. -/
theorem acc_shares (c : Dev nD) (f : Vec F S768x768 .bf16) :
    ((c : Thread nD τ).loc cc0_scratch0 ↦{fullShare} f : sProp 𝕄)
      = iprop(((c : Thread nD τ).loc cc0_scratch0 ↦{fullShare.left} f) ∗ bigSepL own8 fun p => accPts c (dirShare p.1) (qt p.1 p.2) f) := by
  have hq (q : PosShare TreeShare) : ((c : Thread nD τ).loc cc0_scratch0 ↦{q} f : sProp 𝕄)
      = iprop(((c : Thread nD τ).loc cc0_scratch0 ↦{q.left} f) ∗ ((c : Thread nD τ).loc cc0_scratch0 ↦{q.right} f)) :=
    BI.Entails.antisymm (pointsTo_share (PosShare.mem_left_op_right q)).1 (pointsTo_share (PosShare.mem_left_op_right q)).2
  have hb (b : Bool) : ((c : Thread nD τ).loc cc0_scratch0 ↦{dirShare b} f : sProp 𝕄)
      = bigSepL ((List.finRange 4).map (fun j => (b, Fin.castLE (by decide) j))) fun p : Bool × Fin 62 => accPts c (dirShare p.1) (qt p.1 p.2) f := by
    rw [acc_split, bigSepL_map, bigSep_univ_eq_bigSepL (List.finRange 4) (by decide) (by decide)]
    simp only [qt_castLE]
  rw [hq fullShare, hq fullShare.right, own8_eq, bigSepL_append, ← hb false, ← hb true]
  rfl

end Cert.KernelIdeal
-- ==== Proof.Schedule.lean ====
module

public import proofs.«01_k».proof.Proof.Regions

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the exchange's ghost state lies in the user's. -/
abbrev EX : Emb UB (MT nD τ sig Unit (Elt F) ℕ UU ℕ) := embR

/-! ## The semaphores -/

/-- The names of the kernel's own semaphores: the copy's, and the departure's (`r` false) or the landing's (`r` true) of transfer `i` in direction `b`. -/
abbrev Own : Type := Unit ⊕ (Bool × Bool × Fin 62)
/-- The same and the barrier's. -/
abbrev KC : Type := Unit ⊕ Own

/-- The DMA semaphore of a name. -/
def ksem : Own → DmaSem sig
  | .inl _ => cc0_scratch1.sem
  | .inr (r, b, i) => if r then rcvSem b i else sndSem b i
/-- The same, among the semaphores of all kinds. -/
abbrev osem (o : Own) : SemLoc sig := .dma (ksem o)
/-- The semaphore of a name, the barrier among them. -/
def kloc : KC → SemLoc sig
  | .inl _ => .reg barSem
  | .inr o => osem o

/-- The number of a semaphore. -/
def onum : Own → ℕ
  | .inl _ => 2
  | .inr (r, b, i) => 3 + 64 * r.toNat + 128 * b.toNat + place b i

/-- The number of the semaphore of the local copy. -/
theorem copySem_val : cc0_scratch1.sem.val = 2 := by decide +kernel

/-- The number of a named semaphore. -/
theorem ksem_val (o : Own) : (ksem o).val = onum o := by
  rcases o with _ | ⟨r, b, i⟩
  · exact copySem_val
  · cases r
    · show (sndSem b i).val = _; rw [sndSem_val]; simp only [onum, Bool.toNat_false]
    · show (rcvSem b i).val = _; rw [rcvSem_val]; simp only [onum, Bool.toNat_true]

/-- Two transfers of a direction have different semaphores in an array. -/
theorem place_injective : ∀ (b : Bool) (i i' : Fin 62), place b i = place b i' → i = i' := by decide +kernel

/-- Different names have different numbers. -/
theorem onum_injective : Function.Injective onum := by
  rintro (_ | ⟨r, b, i⟩) (_ | ⟨r', b', i'⟩) h
  · rfl
  · simp only [onum] at h; omega
  · simp only [onum] at h; omega
  · simp only [onum] at h
    have h1 := place_lt b i
    have h2 := place_lt b' i'
    have hb : b = b' := by cases b <;> cases b' <;> cases r <;> cases r' <;> first | rfl | (simp only [Bool.toNat_false, Bool.toNat_true] at h; omega)
    subst hb
    have hr : r = r' := by cases r <;> cases r' <;> first | rfl | (simp only [Bool.toNat_false, Bool.toNat_true] at h; omega)
    subst hr
    rw [place_injective b i i' (by omega)]

/-- Different names are different DMA semaphores. -/
theorem osem_injective : Function.Injective osem := fun o o' h => by
  refine onum_injective ?_
  rw [← ksem_val, ← ksem_val, SemLoc.dma.inj h]

/-- Different names are different semaphores. -/
theorem kloc_injective : Function.Injective kloc := by
  rintro (_ | o) (_ | o') h
  · rfl
  · cases h
  · cases h
  · exact congrArg _ (osem_injective h)

/-- A semaphore of a device. -/
def kcell (ck : Dev nD × KC) : GSem nD τ sig := ((ck.1 : Thread nD τ), kloc ck.2)

/-- On all devices together too. -/
theorem kcell_injective : Function.Injective kcell := by
  rintro ⟨c, k⟩ ⟨c', k'⟩ h
  have h1 : c = c' := congrArg (fun g : GSem nD τ sig => g.1.1) h
  have h2 : k = k' := kloc_injective (congrArg Prod.snd h)
  rw [h1, h2]

/-- The name of the barrier semaphore. -/
abbrev barK : KC := .inl ()
/-- The name of the local copy's semaphore. -/
abbrev copyK : KC := .inr (.inl ())
/-- The names of a transfer's semaphores: where it lands (`r`) and where it left. -/
abbrev xferK (b r : Bool) (i : Fin 62) : KC := .inr (.inr (r, b, i))

/-- Device `c`'s barrier semaphore. -/
abbrev barC (c : Dev nD) : GSem nD τ sig := ((c : Thread nD τ), .reg barSem)
/-- Device `c`'s semaphore of the local copy. -/
abbrev copyC (c : Dev nD) : GSem nD τ sig := ((c : Thread nD τ), .dma cc0_scratch1.sem)
/-- The semaphore that transfer `i` raises at device `c`, which sent it. -/
abbrev sndC (c : Dev nD) (b : Bool) (i : Fin 62) : GSem nD τ sig := ((c : Thread nD τ), .dma (sndSem b i))
/-- The semaphore that transfer `i` raises at device `c`, where it lands. -/
abbrev rcvC (c : Dev nD) (b : Bool) (i : Fin 62) : GSem nD τ sig := ((c : Thread nD τ), .dma (rcvSem b i))

/-- The name of a semaphore, if it has one. -/
def what (s : SemLoc sig) : Option KC := by
  classical exact if h : ∃ k, kloc k = s then some h.choose else none

/-- A named semaphore's name is found. -/
theorem what_kloc (k : KC) : what (kloc k) = some k := by
  unfold what
  rw [dif_pos ⟨k, rfl⟩]
  exact congrArg some (kloc_injective (Exists.choose_spec (p := fun k' => kloc k' = kloc k) ⟨k, rfl⟩))

/-- A name found is the semaphore's. -/
theorem kloc_what {s : SemLoc sig} {k : KC} (h : what s = some k) : kloc k = s := by
  unfold what at h
  split at h
  · rename_i h'; cases h; exact h'.choose_spec
  · cases h

/-! ## The schedule -/

/-- The units a transfer, and the copy, count. -/
def N : ℕ := (accAt 0).view.dmaCredit
/-- What the local copy credits. -/
def Ncopy : ℕ := (Memref.whole cc0_scratch0 : Memref sig .tc .vmem S768x768 .bf16).view.dmaCredit

/-- A transfer into rows of the result credits `N`. -/
theorem outAt_credit (b : Bool) (d : Dev nD) (i : Fin 62) : (outAt b d i).view.dmaCredit = N := rfl
/-- So does one out of a quarter of the scratch. -/
theorem accAt_credit (j : Fin 4) : (accAt j).view.dmaCredit = N := rfl
/-- The copy to the own rows credits `Ncopy`. -/
theorem ownAt_credit (d : Dev nD) : (ownAt d).view.dmaCredit = Ncopy := rfl
/-- A transfer credits something. -/
theorem N_pos : 0 < N := View.dmaCredit_pos _ (by decide)
/-- So does the local copy. -/
theorem Ncopy_pos : 0 < Ncopy := View.dmaCredit_pos _ (by decide)

variable (P : Dev nD → Vec F S768x768 .bf16)

/-- What transfer `i` reads: a quarter of the device's own product, or rows that have landed. -/
def sndPay (c : Dev nD) (b : Bool) (i : Fin 62) : sProp 𝕄 :=
  if i.val < 4 then accPts c (dirShare b) (qt b i) (P c) else outPts c (org b (hop i) c) (qt b i) (gath P)

/-- What lands on device `c` with transfer `i`. -/
def rcvPay (c : Dev nD) (b : Bool) (i : Fin 62) : sProp 𝕄 := outPts c (slot c (b, i)).1 (slot c (b, i)).2 (gath P)

/-- Where transfer `i` of device `c` writes on its neighbour. -/
def dstPts (c : Dev nD) (b : Bool) (i : Fin 62) : sProp 𝕄 := iprop(∃ f : Vec F S24576x768 .bf16, outPts (nbr b c) (org b (hop i) c) (qt b i) f)

/-- What the local copy hands over: the own rows, written, and half of the scratch back. -/
def copyPay (c : Dev nD) : sProp 𝕄 :=
  iprop(ownPts c (gath P) ∗ ((c : Thread nD τ).loc cc0_scratch0 ↦{fullShare.left} P c))

/-- What a neighbour's signal hands: all that will be written there. -/
def barPay (c : Dev nD) (b : Bool) : sProp 𝕄 := bigSep Finset.univ fun i : Fin 62 => dstPts c b i

/-- What a semaphore's duty hands over. -/
def payOf (c : Dev nD) : KC → Bool → sProp 𝕄
  | .inl _, b => barPay c b
  | .inr (.inl _), _ => copyPay P c
  | .inr (.inr (r, b, i)), _ => if r then rcvPay P c b i else sndPay P c b i

/-- What a duty credits. -/
def amountOf : KC → ℕ
  | .inl _ => 1
  | .inr (.inl _) => Ncopy
  | .inr (.inr _) => N

/-- The duties of a semaphore: the barrier has two, every other has one. -/
def dutiesOf : KC → Finset Bool
  | .inl _ => Finset.univ
  | .inr _ => {false}

/-- Every duty credits something. -/
theorem amountOf_pos (k : KC) : 0 < amountOf k := by
  rcases k with _ | _ | _
  · exact Nat.one_pos
  · exact Ncopy_pos
  · exact N_pos

/-- One round: a barrier has a duty for each neighbour, of a unit; every other semaphore one duty. -/
def Rd : Rounds.Schedule (GSem nD τ sig) Bool 𝕄 where
  duties g r := if r = 0 ∧ g.1.2 = .tc then (what g.2).elim ∅ dutiesOf else ∅
  unitless _ := False
  amount g _ _ := (what g.2).elim 1 amountOf
  payload g _ d := (what g.2).elim iprop(emp) fun k => payOf P g.1.1 k d
  amount_pos g _ _ _ := by
    cases what g.2 with
    | none => exact Nat.one_pos
    | some k => exact amountOf_pos k

/-- What a duty hands over can be kept in an invariant. -/
instance Rd_payload_storable (g : GSem nD τ sig) (r : ℕ) (d : Bool) : BI.Storable (upEmb : UEmb _ 𝕄) ((Rd P).payload g r d) := by
  show BI.Storable upEmb ((what g.2).elim iprop(emp) fun k => payOf P g.1.1 k d)
  cases what g.2 with
  | none => exact inferInstanceAs (BI.Storable upEmb iprop(emp))
  | some k =>
    show BI.Storable upEmb (payOf P g.1.1 k d)
    rcases k with _ | _ | ⟨r, b, i⟩
    · show BI.Storable upEmb (barPay g.1.1 d); unfold barPay dstPts; infer_instance
    · show BI.Storable upEmb (copyPay P g.1.1); unfold copyPay; infer_instance
    · show BI.Storable upEmb (if r then rcvPay P g.1.1 b i else sndPay P g.1.1 b i)
      unfold rcvPay sndPay
      (repeat' split) <;> infer_instance

/-- The duties of a named semaphore in its one round. -/
theorem duties_cell (c : Dev nD) (k : KC) : (Rd P).duties (kcell (c, k)) 0 = dutiesOf k := by
  dsimp only [Rd]
  rw [if_pos ⟨rfl, rfl⟩, show (kcell (c, k)).2 = kloc k from rfl, what_kloc]; rfl
/-- There is no later round. -/
theorem duties_later (g : GSem nD τ sig) : ∀ r, 1 ≤ r → (Rd P).duties g r = ∅ := fun r hr => by
  dsimp only [Rd]; exact if_neg fun h => by omega
/-- What a duty of a named semaphore credits. -/
theorem amount_cell (c : Dev nD) (k : KC) (d : Bool) : (Rd P).amount (kcell (c, k)) 0 d = amountOf k := by
  show (what (kloc k)).elim 1 amountOf = _
  rw [what_kloc]; rfl
/-- What a duty of a named semaphore hands over. -/
theorem payload_cell (c : Dev nD) (k : KC) (d : Bool) : (Rd P).payload (kcell (c, k)) 0 d = payOf P c k d := by
  show (what (kloc k)).elim iprop(emp) (fun k => payOf P c k d) = _
  rw [what_kloc]; rfl

/-- A transfer's semaphore has the duty of the transfer. -/
theorem duty_own (c : Dev nD) (o : Own) : false ∈ (Rd P).duties (kcell (c, .inr o)) 0 := by
  rw [duties_cell]; exact Finset.mem_singleton_self _
/-- The barrier has a duty of each neighbour. -/
theorem duty_bar (c : Dev nD) (b : Bool) : b ∈ (Rd P).duties (barC c) 0 := by
  rw [show barC c = kcell (c, barK) from rfl, duties_cell]; exact Finset.mem_univ b

/-- A transfer's semaphore expects what the transfer credits. -/
theorem expect_own (c : Dev nD) (o : Own) : (Rd P).expect (kcell (c, .inr o)) 0 = amountOf (.inr o) := by
  unfold Schedule.expect Schedule.amountOf
  rw [duties_cell, show dutiesOf (.inr o) = {false} from rfl, Finset.sum_singleton, amount_cell]
/-- The barrier expects two. -/
theorem expect_bar (c : Dev nD) : (Rd P).expect (barC c) 0 = 2 := by
  unfold Schedule.expect Schedule.amountOf
  rw [show barC c = kcell (c, barK) from rfl, duties_cell, Finset.sum_congr rfl fun d _ => amount_cell P c barK d]
  rfl

/-- What a wait on a semaphore of the kernel's own gives. -/
theorem rest_own (c : Dev nD) (o : Own) :
    bigSep ((Rd P).duties (kcell (c, .inr o)) 0 \ ∅) (fun d => (Rd P).payload (kcell (c, .inr o)) 0 d) = payOf P c (.inr o) false := by
  rw [Finset.sdiff_empty, duties_cell, show dutiesOf (.inr o) = {false} from rfl, bigSep_singleton, payload_cell]
/-- What the wait at the barrier gives. -/
theorem rest_bar (c : Dev nD) :
    bigSep ((Rd P).duties (barC c) 0 \ ∅) (fun d => (Rd P).payload (barC c) 0 d) = iprop(barPay c false ∗ barPay c true) := by
  rw [Finset.sdiff_empty, show barC c = kcell (c, barK) from rfl, duties_cell, show dutiesOf barK = Finset.univ from rfl,
    bigSep_univ_eq_bigSepL [false, true] (by decide) (by decide), bigSepL_cons_cons, bigSepL_singleton, payload_cell, payload_cell]
  rfl

/-! ## What is owed, and the levels -/

/-- What device `c` owes for the transfers of a list. -/
def owedL (c : Dev nD) (l : List (Bool × Fin 62)) : CellTallies nD τ sig Unit :=
  (l.map fun p => tallyAt (rcvC (nbr p.1 c) p.1 p.2) () N).sum

/-- No transfer, nothing owed. -/
theorem owedL_nil (c : Dev nD) : owedL c [] = 0 := rfl
/-- One transfer more owes its landing. -/
theorem owedL_cons (c : Dev nD) (p : Bool × Fin 62) (l : List (Bool × Fin 62)) :
    owedL c (p :: l) = owedL c l + tallyAt (rcvC (nbr p.1 c) p.1 p.2) () N := by
  unfold owedL; rw [List.map_cons, List.sum_cons, add_comm]

/-- What is owed is owed at a landing. -/
theorem owedL_pos {c : Dev nD} {g : GSem nD τ sig} {u : Unit} : ∀ {l : List (Bool × Fin 62)}, 0 < owedL c l g u → ∃ p ∈ l, g = rcvC (nbr p.1 c) p.1 p.2
  | [], h => absurd h (Nat.lt_irrefl 0)
  | p :: l, h => by
    rw [owedL_cons, Pi.add_apply, Finsupp.add_apply, tallyAt_apply] at h
    by_cases hg : g = rcvC (nbr p.1 c) p.1 p.2 ∧ u = ()
    · exact ⟨p, List.mem_cons_self, hg.1⟩
    · rw [if_neg hg] at h
      obtain ⟨p', hp', e⟩ := owedL_pos (l := l) h
      exact ⟨p', List.mem_cons_of_mem _ hp', e⟩

/-- What device `c` owes after its first signal, and at the start. -/
def O₁ (c : Dev nD) : CellTallies nD τ sig Unit := owedL c (sends exchange) + tallyAt (barC (nbr false c)) () 1
/-- What a device owes at the launch: both signals and all landings. -/
def O₀ (c : Dev nD) : CellTallies nD τ sig Unit := O₁ c + tallyAt (barC (nbr true c)) () 1

/-- What is owed at the launch is owed at a landing or a barrier. -/
theorem O₀_pos {c : Dev nD} {g : GSem nD τ sig} {u : Unit} (h : 0 < O₀ c g u) :
    (∃ d b i, g = rcvC d b i) ∨ ∃ d, g = barC d := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨p, -, e⟩ := owedL_pos (by simpa using h)
  exact hn.1 ⟨_, _, _, e⟩

/-- Each semaphore of a TensorCore has one index. -/
def L (g : GSem nD τ sig) : Finset Unit := if g.1.2 = .tc then {()} else ∅
/-- The level of a semaphore: that of a landing rises with the hop. -/
def levOf : KC → ℕ
  | .inl _ => 1
  | .inr (.inl _) => 0
  | .inr (.inr (r, _, i)) => if r then 2 + hop i else 0
/-- Barriers are at level 1, landings above them by their hop, all else at level 0. -/
def lv (g : GSem nD τ sig) (_ : Unit) : ℕ := (what g.2).elim 0 levOf

/-- No other semaphore has an index. -/
theorem L_of_ne (g : GSem nD τ sig) (h : g.1.2 ≠ .tc) : L g = ∅ := if_neg h
/-- A TensorCore's semaphore has its one index. -/
theorem L_tc (c : Dev nD) (sm : SemLoc sig) : L ((c : Thread nD τ), sm) = {()} := if_pos rfl
/-- The level of a named semaphore. -/
theorem lv_cell (c : Dev nD) (k : KC) (u : Unit) : lv (kcell (c, k)) u = levOf k := by
  show (what (kloc k)).elim 0 levOf = _; rw [what_kloc]; rfl
/-- The level of a landing is its hop and two. -/
theorem lv_rcv (c : Dev nD) (b : Bool) (i : Fin 62) (u : Unit) : lv (rcvC c b i) u = 2 + hop i := lv_cell c (xferK b true i) u
/-- The level where a transfer left is zero. -/
theorem lv_snd (c : Dev nD) (b : Bool) (i : Fin 62) (u : Unit) : lv (sndC c b i) u = 0 := lv_cell c (xferK b false i) u
/-- The level of the barrier is one. -/
theorem lv_bar (c : Dev nD) (u : Unit) : lv (barC c) u = 1 := lv_cell c barK u
/-- The level of the local copy is zero. -/
theorem lv_copy (c : Dev nD) (u : Unit) : lv (copyC c) u = 0 := lv_cell c copyK u

/-- A device may wait on a semaphore below the landings that it still owes. -/
theorem mayWait_owedL (c : Dev nD) (sm : SemLoc sig) (l : List (Bool × Fin 62))
    (h : ∀ p ∈ l, lv ((c : Thread nD τ), sm) () < 2 + hop p.2) :
    (levAts L lv : sProp 𝕄) ⊢ MayWait (c : Thread nD τ) sm () (owedL c l) :=
  MayOwe.of_cut (L := L) (lev := lv) (lv ((c : Thread nD τ), sm) ())
    (fun p hp => by rw [Finset.mem_singleton.mp hp, L_tc]; exact Finset.mem_singleton_self _)
    (fun g u hg => by obtain ⟨p, -, rfl⟩ := owedL_pos hg; exact Finset.mem_singleton_self _)
    (fun p hp => by rw [Finset.mem_singleton.mp hp])
    (fun g u hg => by obtain ⟨p, hp, rfl⟩ := owedL_pos hg; rw [lv_rcv]; exact h p hp)

/-- A device may wait at level 0 whatever it owes at the start. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, b, i, rfl⟩ | ⟨d, rfl⟩ <;> exact Finset.mem_singleton_self _)
      (fun p hp => by rw [Finset.mem_singleton.mp hp]; exact Nat.le_of_eq hsm)
      (fun g u hg => by
        rcases O₀_pos hg with ⟨d, b, i, rfl⟩ | ⟨d, rfl⟩
        · rw [lv_rcv]; omega
        · rw [lv_bar]; decide)
  · rw [MayWait_zero]; iintro -; iempintro

end Cert.KernelIdeal
-- ==== Proof.Steps.lean ====
module

public import proofs.«01_k».proof.Proof.Schedule

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

variable (P : Dev nD → Vec F S768x768 .bf16)

/-- What every device knows of all the semaphores: their invariants, and that their only round has begun. -/
def records (κ : Dev nD × KC → ℕ) : sProp 𝕄 :=
  iprop((bigSep Finset.univ fun ck : Dev nD × KC => cellInv EX (Rd P) (κ ck) (kcell ck))
    ∗ bigSep Finset.univ fun ck : Dev nD × KC => reached EX (kcell ck) 0)

/-- The records may be used again and again. -/
instance records_persistent (κ : Dev nD × KC → ℕ) : BI.Persistent (records P κ) := by unfold records; infer_instance

/-- The records hold the invariant of each semaphore. -/
theorem inv_at (κ : Dev nD × KC → ℕ) (ck : Dev nD × KC) : records P κ ⊢ cellInv EX (Rd P) (κ ck) (kcell ck) := by
  have h : (bigSep Finset.univ fun ck : Dev nD × KC => (cellInv EX (Rd P) (κ ck) (kcell ck) : sProp 𝕄)) ⊢ cellInv EX (Rd P) (κ ck) (kcell ck) := bigSep_elim (Finset.mem_univ ck)
  unfold records
  iintro ⟨H, -⟩
  iapply h; iexact H
/-- They say of each semaphore that its round has begun. -/
theorem reached_at (κ : Dev nD × KC → ℕ) (ck : Dev nD × KC) : records P κ ⊢ reached EX (kcell ck) 0 := by
  have h : (bigSep Finset.univ fun ck : Dev nD × KC => (reached EX (kcell ck) 0 : sProp 𝕄)) ⊢ reached EX (kcell ck) 0 := bigSep_elim (Finset.mem_univ ck)
  unfold records
  iintro ⟨-, H⟩
  iapply h; iexact H

/-! ## One step -/

section Step
variable (κ : Dev nD × KC → ℕ) (c : Dev nD) (b : Bool) (i : Fin 62) (l : List (Bool × Fin 62)) (W : Waits sig Unit)

/-- The start of a transfer: with what it reads, where it writes and its two duties, it discharges what is owed for it and gives the credit for its departure. -/
theorem send_step (Q : PUnit.{1} → sProp 𝕄) (k : PUnit.{1} → KProg F) :
    iprop(records P κ ∗ sndPay P c b i ∗ dstPts c b i ∗ owes (c : Thread nD τ) (owedL c ((b, i) :: l)) W
        ∗ dutyTok EX (sndC c b i) 0 false ∗ dutyTok EX (rcvC (nbr b c) b i) 0 false)
      ⊢ iprop(((cred (tallyAt (sndC c b i) () N) ∗ owes (c : Thread nD τ) (owedL c l) W) -∗ wp frame (wpE (defs₀ (F := F)) 𝒱₀ (c : Thread nD τ) none) Set.univ (k ⟨⟩) Q)
          -∗ wp frame (wpE (defs₀ (F := F)) 𝒱₀ (c : Thread nD τ) none) Set.univ ((sendProg c b i).bind k) Q) := by
  have hd₁ : false ∈ (Rd P).duties (sndC c b i) 0 := duty_own P c (.inr (false, b, i))
  have hd₂ : false ∈ (Rd P).duties (rcvC (nbr b c) b i) 0 := duty_own P (nbr b c) (.inr (true, b, i))
  have hk₁ : (Rd P).amount (sndC c b i) 0 false = N := amount_cell P c (xferK b false i) false
  have hk₂ : (Rd P).amount (rcvC (nbr b c) b i) 0 false = N := amount_cell P (nbr b c) (xferK b true i) false
  have hp₁ : (Rd P).payload (sndC c b i) 0 false = sndPay P c b i := payload_cell P c (xferK b false i) false
  have hp₂ : (Rd P).payload (rcvC (nbr b c) b i) 0 false = outPts (nbr b c) (org b (hop i) c) (qt b i) (gath P) := by
    refine (payload_cell P (nbr b c) (xferK b true i) false).trans ?_
    show rcvPay P (nbr b c) b i = _
    unfold rcvPay slot
    rw [show org b (hop i + 1) (nbr b c) = org b (hop i) c from org_succ_nbr b (hop i) c]
  have hdst (f : Vec F S24576x768 .bf16) : (outPts (nbr b c) (org b (hop i) c) (qt b i) f : sProp 𝕄)
      = ((outAt b c i).view.loc (nbr b c : Thread nD τ) ↦[(outAt b c i).view.set]{fullShare} f) := by
    rw [outAt_set]; rfl
  unfold dstPts
  have hN : (outAt b c i).view.amount (.dma (rcvSem b i)) = N := rfl
  iintro ⟨#HR, Hs, ⟨%fd, Hd⟩, HO, Ht1, Ht2⟩
  ihave #HI1 := (inv_at P κ (c, xferK b false i)) $$ HR
  ihave #HI2 := (inv_at P κ (nbr b c, xferK b true i)) $$ HR
  ihave #HR1 := (reached_at P κ (c, xferK b false i)) $$ HR
  ihave #HR2 := (reached_at P κ (nbr b c, xferK b true i)) $$ HR
  ihave Hd := (Entails.of_eq (hdst fd)) $$ Hd
  by_cases h : i.val < 4
  · have hsrc : sndPay P c b i = ((accAt ⟨i.val, h⟩).view.loc (c : Thread nD τ) ↦[(accAt ⟨i.val, h⟩).view.set]{dirShare b} P c : sProp 𝕄) := by
      unfold sndPay; rw [if_pos h, accAt_set, show qt b i = ⟨i.val, h⟩ from Fin.ext (qt_first b i h)]; rfl
    ihave Hs := (Entails.of_eq hsrc) $$ Hs
    unfold sendProg
    rw [dif_pos h]
    simp only [Prog.lift, Prog.bind_op, Prog.bind_ret]
    iapply (Rounds.wp_send_pointsTo 𝒱₀ EX (Rd P) (c : Thread nD τ) none (κ₁ := κ (c, xferK b false i)) (κ₂ := κ (nbr b c, xferK b true i))
      (r₁ := 0) (r₂ := 0) (d₁ := false) (d₂ := false) (fd := fd) hd₁ hd₂ () () N hN hk₁ hk₂ (owedL c l) (owedL_cons c (b, i) l) (W := W)
      (Entails.of_eq (hsrc.symm.trans hp₁.symm))
      (Entails.of_eq ((pointsTo_congr fun x hx => landed_first P b c i h fd x hx).trans ((hdst _).symm.trans hp₂.symm)))) $$ [Hs Hd HO Ht1 Ht2]
    isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  · have hsrc : sndPay P c b i = ((outAt b c i).view.loc (c : Thread nD τ) ↦[(outAt b c i).view.set]{fullShare} gath P : sProp 𝕄) := by
      unfold sndPay; rw [if_neg h, outAt_set]; rfl
    ihave Hs := (Entails.of_eq hsrc) $$ Hs
    unfold sendProg
    rw [dif_neg h]
    simp only [Prog.lift, Prog.bind_op, Prog.bind_ret]
    iapply (Rounds.wp_send_pointsTo 𝒱₀ EX (Rd P) (c : Thread nD τ) none (κ₁ := κ (c, xferK b false i)) (κ₂ := κ (nbr b c, xferK b true i))
      (r₁ := 0) (r₂ := 0) (d₁ := false) (d₂ := false) (fd := fd) hd₁ hd₂ () () N hN hk₁ hk₂ (owedL c l) (owedL_cons c (b, i) l) (W := W)
      (Entails.of_eq (hsrc.symm.trans hp₁.symm))
      (Entails.of_eq ((pointsTo_congr fun x hx => landed_fwd P b c i fd x hx).trans ((hdst _).symm.trans hp₂.symm)))) $$ [Hs Hd HO Ht1 Ht2]
    isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2

/-- A wait for a transfer on semaphore `r` of transfer `i` in direction `b`, whatever the two ends that it names. -/
theorem wait_step (Q : PUnit.{1} → sProp 𝕄) (k : PUnit.{1} → KProg F) (r : Bool) {sp sp' : Space} {s : Shape} {e : EltTy} (src : Memref sig .tc sp s e) (dst : Memref sig .tc sp' s e)
    (hs : src.view.WordExact) (hd : dst.view.WordExact) (hN : dst.view.dmaCredit = N)
    (h : ∀ p ∈ l, lv (kcell (c, xferK b r i)) () < 2 + hop p.2) :
    iprop(records P κ ∗ levAts L lv ∗ cred (tallyAt (kcell (c, xferK b r i)) () N) ∗ atPos EX (kcell (c, xferK b r i)) 0 ∅ 0 ∗ owes (c : Thread nD τ) (owedL c l) W)
      ⊢ iprop(((owes (c : Thread nD τ) (owedL c l) (insert (kloc (xferK b r i), ()) W) ∗ atPos EX (kcell (c, xferK b r i)) 1 ∅ 0 ∗ payOf P c (xferK b r i) false)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (if r then rcvSem b i else sndSem b i) src dst hs hd) k) Q) := by
  have hr : bigSep ((Rd P).duties ((c : Thread nD τ), kloc (xferK b r i)) 0 \ ∅) (fun d => (Rd P).payload ((c : Thread nD τ), kloc (xferK b r i)) 0 d)
      = payOf P c (xferK b r i) false := rest_own P c (.inr (r, b, i))
  iintro ⟨#HR, #Hlev, Hc, Ha, HO⟩ Hk
  ihave #HI := (inv_at P κ (c, xferK b r i)) $$ HR
  iapply (Rounds.wp_wait_rest_token 𝒱₀ EX (Rd P) (c : Thread nD τ) none (κ := κ (c, xferK b r i)) (sm := kloc (xferK b r i))
    (wpE_waitDma2_eq 𝒱₀ (c : Thread nD τ) none Set.univ) (Set.mem_univ _) () (O := owedL c l) (W := W) (R := 0) (m := 0) (T := ∅)
    (by rw [Nat.zero_add, hN]; exact (expect_own P c (.inr (r, b, i))).symm)) $$ [Hc Ha HO]
  · isplitr; · iexact HI
    isplitl [Hc]; · rw [hN]; iexact Hc
    isplitl [HO]; · iexact HO
    isplitr; · iapply (mayWait_owedL c (kloc (xferK b r i)) l h); iexact Hlev
    iexact Ha
  iintro ⟨HO, Ha, -, Hp⟩
  ihave Hp := (Entails.of_eq hr) $$ Hp
  iapply Hk
  isplitl [HO]; · iexact HO
  isplitl [Ha]; · iexact Ha
  iexact Hp

/-- The wait for a landing, below what is still owed: it gives what has landed. -/
theorem land_step (Q : PUnit.{1} → sProp 𝕄) (k : PUnit.{1} → KProg F) (h : ∀ p ∈ l, hop i < hop p.2) :
    iprop(records P κ ∗ levAts L lv ∗ cred (tallyAt (rcvC c b i) () N) ∗ atPos EX (rcvC c b i) 0 ∅ 0 ∗ owes (c : Thread nD τ) (owedL c l) W)
      ⊢ iprop(((owes (c : Thread nD τ) (owedL c l) (insert (.dma (rcvSem b i), ()) W) ∗ atPos EX (rcvC c b i) 1 ∅ 0 ∗ rcvPay P c b i)
            -∗ wp frame (wpE (defs₀ (F := F)) 𝒱₀ (c : Thread nD τ) none) Set.univ (k ⟨⟩) Q)
          -∗ wp frame (wpE (defs₀ (F := F)) 𝒱₀ (c : Thread nD τ) none) Set.univ ((landProg c b i).bind k) Q) := by
  have hl : ∀ p ∈ l, lv (kcell (c, xferK b true i)) () < 2 + hop p.2 := fun p hp => by
    rw [lv_cell]; have := h p hp; show 2 + hop i < 2 + hop p.2; omega
  unfold landProg
  split
  · simp only [Prog.lift, Prog.bind_op, Prog.bind_ret]
    exact wait_step P κ c b i l W Q _ true _ _ _ _ rfl hl
  · simp only [Prog.lift, Prog.bind_op, Prog.bind_ret]
    exact wait_step P κ c b i l W Q _ true _ _ _ _ rfl hl

/-- The wait for a departure: it gives back what the transfer has read. -/
theorem leave_step (Q : PUnit.{1} → sProp 𝕄) (k : PUnit.{1} → KProg F) :
    iprop(records P κ ∗ levAts L lv ∗ cred (tallyAt (sndC c b i) () N) ∗ atPos EX (sndC c b i) 0 ∅ 0 ∗ owes (c : Thread nD τ) (owedL c l) W)
      ⊢ iprop(((owes (c : Thread nD τ) (owedL c l) (insert (.dma (sndSem b i), ()) W) ∗ atPos EX (sndC c b i) 1 ∅ 0 ∗ sndPay P c b i)
            -∗ wp frame (wpE (defs₀ (F := F)) 𝒱₀ (c : Thread nD τ) none) Set.univ (k ⟨⟩) Q)
          -∗ wp frame (wpE (defs₀ (F := F)) 𝒱₀ (c : Thread nD τ) none) Set.univ ((leaveProg c b i).bind k) Q) := by
  have hl : ∀ p ∈ l, lv (kcell (c, xferK b false i)) () < 2 + hop p.2 := fun p hp => by
    rw [lv_cell]; show 0 < 2 + hop p.2; omega
  unfold leaveProg
  split
  · simp only [Prog.lift, Prog.bind_op, Prog.bind_ret]
    exact wait_step P κ c b i l W Q _ false _ _ _ _ rfl hl
  · simp only [Prog.lift, Prog.bind_op, Prog.bind_ret]
    exact wait_step P κ c b i l W Q _ false _ _ _ _ rfl hl

end Step

/-! ## The steps of a list -/

section Run
variable (κ : Dev nD × KC → ℕ) (c : Dev nD)

/-- What the start of a transfer takes: its two duties, where it writes, and the quarter of the device's own product that it reads, if it reads one. -/
def toSend (p : Bool × Fin 62) : sProp 𝕄 :=
  iprop(dutyTok EX (sndC c p.1 p.2) 0 false ∗ dutyTok EX (rcvC (nbr p.1 c) p.1 p.2) 0 false ∗ dstPts c p.1 p.2
    ∗ if p.2.val < 4 then accPts c (dirShare p.1) (qt p.1 p.2) (P c) else iprop(emp))
/-- What the wait for a landing takes. -/
def toLand (p : Bool × Fin 62) : sProp 𝕄 :=
  iprop(cred (tallyAt (rcvC c p.1 p.2) () N) ∗ atPos EX (rcvC c p.1 p.2) 0 ∅ 0)
/-- What the wait for a departure takes: its credit, and its place. -/
def sent (p : Bool × Fin 62) : sProp 𝕄 := cred (tallyAt (sndC c p.1 p.2) () N)
/-- What the waits for departures take. -/
def toLeave (p : Bool × Fin 62) : sProp 𝕄 := iprop(sent c p ∗ atPos EX (sndC c p.1 p.2) 0 ∅ 0)
/-- What the waits leave. -/
def landedAt (p : Bool × Fin 62) : sProp 𝕄 := atPos EX (rcvC c p.1 p.2) 1 ∅ 0
/-- What a wait for a departure leaves: the round is over and the source is back. -/
def gone (p : Bool × Fin 62) : sProp 𝕄 := iprop(atPos EX (sndC c p.1 p.2) 1 ∅ 0 ∗ sndPay P c p.1 p.2)

/-- Rows that landed are those the relaying transfer reads. -/
theorem rcvPay_pre (b : Bool) (i : Fin 62) (h : 4 ≤ i.val) : (rcvPay P c b (pre b i) : sProp 𝕄) = sndPay P c b i := by
  unfold rcvPay sndPay slot
  rw [if_neg (by omega), hop_pre b i h, qt_pre b i h]

/-- The steps of a list that waits in the order of the hops: run with what its transfers take and owe, they end with nothing owed, and with what landed and was not sent on. -/
theorem run_steps (k : KProg F) (Q : PUnit.{1} → sProp 𝕄) : ∀ (ss : List Step) (_ : InOrder ss) (W : Waits sig Unit),
    iprop(records P κ ∗ levAts L lv ∗ owes (c : Thread nD τ) (owedL c (sends ss)) W
        ∗ bigSepL (sends ss) (toSend P c) ∗ bigSepL (waited ss) (toLand c) ∗ bigSepL (left ss) (toLeave c))
      ⊢ iprop(((∃ W' : Waits sig Unit, owes (c : Thread nD τ) 0 W')
              ∗ bigSepL (sends ss) (sent c) ∗ bigSepL (waited ss) (landedAt c) ∗ bigSepL (kept ss) (fun p => rcvPay P c p.1 p.2) ∗ bigSepL (left ss) (gone P c)
            -∗ wp frame (wpE (defs₀ (F := F)) 𝒱₀ (c : Thread nD τ) none) Set.univ k Q)
          -∗ wp frame (wpE (defs₀ (F := F)) 𝒱₀ (c : Thread nD τ) none) Set.univ (runSteps c ss k) Q)
  | [], _, W => by
    iintro ⟨-, -, HO, -, -, -⟩ Hk
    iapply Hk
    isplitl [HO]; · iexists W; iexact HO
    isplitr; · iempintro
    isplitr; · iempintro
    isplitr; · iempintro
    iempintro
  | .send b i :: ss, h, W => by
    have h' : i.val < 4 ∧ InOrder ss := h
    simp only [sends, waited, kept, left, runSteps, bigSepL_cons' (b, i)]
    iintro ⟨#HR, #Hlev, HO, ⟨Ht, HT⟩, HW, HL⟩ Hk
    unfold toSend
    icases Ht with ⟨Ht1, Ht2, Hd, Hs⟩
    ihave Hs := (Entails.of_eq (show (if i.val < 4 then accPts c (dirShare b) (qt b i) (P c) else iprop(emp)) = sndPay P c b i from by
      unfold sndPay; rw [if_pos h'.1, if_pos h'.1])) $$ Hs
    iapply (send_step P κ c b i (sends ss) W Q _) $$ [HO Hs Hd Ht1 Ht2]
    · isplitr; · iexact HR
      isplitl [Hs]; · iexact Hs
      isplitl [Hd]; · iexact Hd
      isplitl [HO]; · iexact HO
      isplitl [Ht1] <;> iassumption
    iintro ⟨Hc, HO⟩
    iapply (run_steps k Q ss h'.2 W) $$ [HO HT HW HL]
    · isplitr; · iexact HR
      isplitr; · iexact Hlev
      isplitl [HO]; · iexact HO
      isplitl [HT]; · unfold toSend; iexact HT
      isplitl [HW] <;> iassumption
    iintro ⟨HO, HT, Hr⟩
    iapply Hk
    isplitl [HO]; · iexact HO
    isplitl [Hc HT]
    · isplitl [Hc]; · unfold sent; iexact Hc
      iexact HT
    iexact Hr
  | .relay b n i :: ss, h, W => by
    have h' : (4 ≤ i.val ∧ n = pre b i ∧ (∀ p ∈ (b, i) :: sends ss, hop n < hop p.2)) ∧ InOrder ss := h
    obtain ⟨⟨hi, rfl, hn⟩, hss⟩ := h'
    simp only [sends, waited, kept, left, runSteps, bigSepL_cons' (b, i), bigSepL_cons' (b, pre b i)]
    iintro ⟨#HR, #Hlev, HO, ⟨Ht, HT⟩, ⟨Hw, HW⟩, HL⟩ Hk
    unfold toSend toLand
    icases Ht with ⟨Ht1, Ht2, Hd, -⟩
    icases Hw with ⟨Hw1, Hw2⟩
    iapply (land_step P κ c b (pre b i) ((b, i) :: sends ss) W Q _ hn) $$ [HO Hw1 Hw2]
    · isplitr; · iexact HR
      isplitr; · iexact Hlev
      isplitl [Hw1]; · iexact Hw1
      isplitl [Hw2] <;> iassumption
    iintro ⟨HO, Hw, Hp⟩
    ihave Hs := (Entails.of_eq (rcvPay_pre P c b i hi)) $$ Hp
    iapply (send_step P κ c b i (sends ss) _ Q _) $$ [HO Hs Hd Ht1 Ht2]
    · isplitr; · iexact HR
      isplitl [Hs]; · iexact Hs
      isplitl [Hd]; · iexact Hd
      isplitl [HO]; · iexact HO
      isplitl [Ht1] <;> iassumption
    iintro ⟨Hc, HO⟩
    iapply (run_steps k Q ss hss _) $$ [HO HT HW HL]
    · isplitr; · iexact HR
      isplitr; · iexact Hlev
      isplitl [HO]; · iexact HO
      isplitl [HT]; · unfold toSend; iexact HT
      isplitl [HW]; · unfold toLand; iexact HW
      iexact HL
    iintro ⟨HO, HT, HW, Hr⟩
    iapply Hk
    isplitl [HO]; · iexact HO
    isplitl [Hc HT]
    · isplitl [Hc]; · unfold sent; iexact Hc
      iexact HT
    isplitl [Hw HW]
    · isplitl [Hw]; · unfold landedAt; iexact Hw
      iexact HW
    iexact Hr
  | .land b n :: ss, h, W => by
    have h' : (∀ p ∈ sends ss, hop n < hop p.2) ∧ InOrder ss := h
    simp only [sends, waited, kept, left, runSteps, bigSepL_cons' (b, n)]
    iintro ⟨#HR, #Hlev, HO, HT, ⟨Hw, HW⟩, HL⟩ Hk
    unfold toLand
    icases Hw with ⟨Hw1, Hw2⟩
    iapply (land_step P κ c b n (sends ss) W Q _ h'.1) $$ [HO Hw1 Hw2]
    · isplitr; · iexact HR
      isplitr; · iexact Hlev
      isplitl [Hw1]; · iexact Hw1
      isplitl [Hw2] <;> iassumption
    iintro ⟨HO, Hw, Hp⟩
    iapply (run_steps k Q ss h'.2 _) $$ [HO HT HW HL]
    · isplitr; · iexact HR
      isplitr; · iexact Hlev
      isplitl [HO]; · iexact HO
      isplitl [HT]; · iexact HT
      isplitl [HW]; · unfold toLand; iexact HW
      iexact HL
    iintro ⟨HO, HT, HW, HK, Hr⟩
    iapply Hk
    isplitl [HO]; · iexact HO
    isplitl [HT]; · iexact HT
    isplitl [Hw HW]
    · isplitl [Hw]; · unfold landedAt; iexact Hw
      iexact HW
    isplitl [Hp HK]
    · isplitl [Hp]; · iexact Hp
      iexact HK
    iexact Hr
  | .leave b i :: ss, h, W => by
    have h' : sends ss = [] ∧ InOrder ss := h
    simp only [sends, waited, kept, left, runSteps, bigSepL_cons' (b, i)]
    iintro ⟨#HR, #Hlev, HO, HT, HW, ⟨Hl, HL⟩⟩ Hk
    unfold toLeave sent
    icases Hl with ⟨Hl1, Hl2⟩
    iapply (leave_step P κ c b i (sends ss) W Q _) $$ [HO Hl1 Hl2]
    · isplitr; · iexact HR
      isplitr; · iexact Hlev
      isplitl [Hl1]; · iexact Hl1
      isplitl [Hl2] <;> iassumption
    iintro ⟨HO, Hl, Hp⟩
    iapply (run_steps k Q ss h'.2 _) $$ [HO HT HW HL]
    · isplitr; · iexact HR
      isplitr; · iexact Hlev
      isplitl [HO]; · iexact HO
      isplitl [HT]; · iexact HT
      isplitl [HW]; · iexact HW
      unfold toLeave sent; iexact HL
    unfold sent
    iintro ⟨HO, HT, HW, HK, HL⟩
    iapply Hk
    isplitl [HO]; · iexact HO
    isplitl [HT]; · iexact HT
    isplitl [HW]; · iexact HW
    isplitl [HK]; · iexact HK
    isplitl [Hl Hp]
    · unfold gone
      isplitl [Hl]; · iexact Hl
      iexact Hp
    iexact HL

end Run

end Cert.KernelIdeal
-- ==== Proof.Exchange.lean ====
module

public import proofs.«01_k».proof.Proof.Steps

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S768x768 .bf16) (κ : Dev nD × KC → ℕ) (c : Dev nD)

/-- The transfers of the own product are the first four of a direction. -/
theorem own8_lt : ∀ p ∈ own8, p.2.val < 4 := by decide +kernel

omit [FloatOps F] in
/-- Over all transfers, as over those of the exchange in its order. -/
theorem over_sends (Φ : Bool × Fin 62 → sProp 𝕄) : bigSep Finset.univ Φ = bigSepL (sends exchange) Φ :=
  bigSep_univ_eq_bigSepL _ sends_all.symm sends_nodup Φ
omit [FloatOps F] in
/-- Over all transfers is over those waited for, in order. -/
theorem over_waited (Φ : Bool × Fin 62 → sProp 𝕄) : bigSep Finset.univ Φ = bigSepL (waited exchange) Φ :=
  bigSep_univ_eq_bigSepL _ waited_all.symm waited_nodup Φ
omit [FloatOps F] in
/-- Over all transfers is over those waited for to have been read, in order. -/
theorem over_left (Φ : Bool × Fin 62 → sProp 𝕄) : bigSep Finset.univ Φ = bigSepL (left departs) Φ :=
  bigSep_univ_eq_bigSepL _ left_all.symm left_nodup Φ

omit [FloatOps F] in
/-- What holds of nothing for each holds for a list. -/
theorem none_needed {Φ : Bool × Fin 62 → sProp 𝕄} : ∀ {l : List (Bool × Fin 62)}, (∀ p ∈ l, (iprop(emp) : sProp 𝕄) ⊢ Φ p) → (iprop(emp) : sProp 𝕄) ⊢ bigSepL l Φ
  | [], _ => .rfl
  | p :: l, h => by
    rw [bigSepL_cons']
    iintro -
    isplitr
    · iapply (h p List.mem_cons_self); iempintro
    · iapply (none_needed fun p' hp' => h p' (List.mem_cons_of_mem _ hp')); iempintro

/-- The shares of the scratch, told of all transfers. -/
theorem own_reads : (bigSepL own8 fun p => accPts c (dirShare p.1) (qt p.1 p.2) (P c) : sProp 𝕄)
    ⊢ bigSep Finset.univ fun p : Bool × Fin 62 => if p.2.val < 4 then accPts c (dirShare p.1) (qt p.1 p.2) (P c) else iprop(emp) := by
  rw [over_sends, sends_exchange, bigSepL_append]
  iintro H
  isplitl
  · iapply (bigSepL_mono fun p hp => Entails.of_eq (if_pos (own8_lt p hp)).symm); iexact H
  · iapply (none_needed fun p hp => Entails.of_eq (if_neg (Nat.not_lt.mpr (rest116_ge p hp))).symm); iempintro

/-- What the transfers have read, with what has landed and was not sent on, is the shares of the scratch and all that has landed. -/
theorem all_back : iprop((bigSep Finset.univ fun p : Bool × Fin 62 => sndPay P c p.1 p.2) ∗ bigSepL (kept exchange) fun p => rcvPay P c p.1 p.2)
    ⊢ (iprop((bigSepL own8 fun p => accPts c (dirShare p.1) (qt p.1 p.2) (P c)) ∗ bigSep Finset.univ fun p : Bool × Fin 62 => rcvPay P c p.1 p.2) : sProp 𝕄) := by
  rw [over_sends, sends_exchange, bigSepL_append, bigSep_univ_eq_bigSepL _ landed_all.symm landed_nodup (fun p : Bool × Fin 62 => rcvPay P c p.1 p.2),
    bigSepL_append, bigSepL_map]
  iintro ⟨⟨H1, H2⟩, H3⟩
  isplitl [H1]
  · have h : (bigSepL own8 fun p => sndPay P c p.1 p.2) ⊢ bigSepL own8 fun p => accPts c (dirShare p.1) (qt p.1 p.2) (P c) :=
      bigSepL_mono fun p hp => Entails.of_eq (by unfold sndPay; rw [if_pos (own8_lt p hp)])
    iapply h; iexact H1
  isplitl [H3]; · iexact H3
  iapply (bigSepL_mono fun p hp => Entails.of_eq (rcvPay_pre P c p.1 p.2 (rest116_ge p hp)).symm); iexact H2

omit [FloatOps F] in
/-- The rows that the two barrier signals hand over are all the landings. -/
theorem bar_all : (bigSep Finset.univ fun p : Bool × Fin 62 => dstPts c p.1 p.2 : sProp 𝕄) = iprop(barPay c false ∗ barPay c true) := by
  rw [bigSep_univ_prod, bigSep_univ_eq_bigSepL [false, true] (by decide) (by decide), bigSepL_cons_cons, bigSepL_singleton]
  rfl

/-- The exchange on device `c`, up to its departures: from its semaphores at the start of their round, the duties and credits, where it writes on its neighbours and the shares of its own product, to the semaphores past their round, all that lands and the shares back. -/
theorem run_exchange (k : KProg F) (Q : PUnit.{1} → sProp 𝕄) (W : Waits sig Unit) :
    iprop(records P κ ∗ levAts L lv ∗ owes (c : Thread nD τ) (owedL c (sends exchange)) W
        ∗ barPay c false ∗ barPay c true ∗ (bigSepL own8 fun p => accPts c (dirShare p.1) (qt p.1 p.2) (P c))
        ∗ (bigSep Finset.univ fun p : Bool × Fin 62 => dutyTok EX (sndC c p.1 p.2) 0 false)
        ∗ (bigSep Finset.univ fun p : Bool × Fin 62 => dutyTok EX (rcvC (nbr p.1 c) p.1 p.2) 0 false)
        ∗ (bigSep Finset.univ fun p : Bool × Fin 62 => atPos EX (sndC c p.1 p.2) 0 ∅ 0)
        ∗ (bigSep Finset.univ fun p : Bool × Fin 62 => atPos EX (rcvC c p.1 p.2) 0 ∅ 0)
        ∗ (bigSep Finset.univ fun p : Bool × Fin 62 => cred (tallyAt (rcvC c p.1 p.2) () N)))
      ⊢ iprop(((∃ W' : Waits sig Unit, owes (c : Thread nD τ) 0 W')
              ∗ (bigSep Finset.univ fun p : Bool × Fin 62 => atPos EX (sndC c p.1 p.2) 1 ∅ 0)
              ∗ (bigSep Finset.univ fun p : Bool × Fin 62 => atPos EX (rcvC c p.1 p.2) 1 ∅ 0)
              ∗ (bigSepL own8 fun p => accPts c (dirShare p.1) (qt p.1 p.2) (P c))
              ∗ (bigSep Finset.univ fun p : Bool × Fin 62 => rcvPay P c p.1 p.2)
            -∗ wp frame (wpE (defs₀ (F := F)) 𝒱₀ (c : Thread nD τ) none) Set.univ k Q)
          -∗ wp frame (wpE (defs₀ (F := F)) 𝒱₀ (c : Thread nD τ) none) Set.univ (runSteps c exchange (runSteps c departs k)) Q) := by
  have hT : iprop((bigSep Finset.univ fun p : Bool × Fin 62 => dutyTok EX (sndC c p.1 p.2) 0 false)
        ∗ (bigSep Finset.univ fun p : Bool × Fin 62 => dutyTok EX (rcvC (nbr p.1 c) p.1 p.2) 0 false)
        ∗ (bigSep Finset.univ fun p : Bool × Fin 62 => dstPts c p.1 p.2)
        ∗ bigSep Finset.univ fun p : Bool × Fin 62 => if p.2.val < 4 then accPts c (dirShare p.1) (qt p.1 p.2) (P c) else iprop(emp))
      ⊢ bigSepL (sends exchange) (toSend P c) := by
    rw [← bigSep_sep', ← bigSep_sep', ← bigSep_sep', over_sends]
    exact .rfl
  have hL : iprop((bigSep Finset.univ fun p : Bool × Fin 62 => cred (tallyAt (rcvC c p.1 p.2) () N))
        ∗ bigSep Finset.univ fun p : Bool × Fin 62 => atPos EX (rcvC c p.1 p.2) 0 ∅ 0)
      ⊢ (bigSepL (waited exchange) (toLand c) : sProp 𝕄) := by
    rw [← bigSep_sep', over_waited]
    exact .rfl
  have hD : iprop(bigSepL (sends exchange) (sent c) ∗ bigSep Finset.univ fun p : Bool × Fin 62 => atPos EX (sndC c p.1 p.2) 0 ∅ 0)
      ⊢ (bigSepL (left departs) (toLeave c) : sProp 𝕄) := by
    rw [← over_sends, ← bigSep_sep', over_left]
    exact .rfl
  have hG : bigSepL (left departs) (gone P c)
      ⊢ iprop((bigSep Finset.univ fun p : Bool × Fin 62 => atPos EX (sndC c p.1 p.2) 1 ∅ 0) ∗ bigSep Finset.univ fun p : Bool × Fin 62 => sndPay P c p.1 p.2) := by
    rw [← bigSep_sep', over_left]
    exact .rfl
  iintro ⟨#HR, #Hlev, HO, HB1, HB2, Hacc, Hts, Htr, Has, Har, Hcr⟩ Hk
  iapply (run_steps P κ c (runSteps c departs k) Q exchange exchange_inOrder W) $$ [HO HB1 HB2 Hacc Hts Htr Har Hcr]
  · isplitr; · iexact HR
    isplitr; · iexact Hlev
    isplitl [HO]; · iexact HO
    isplitl [HB1 HB2 Hacc Hts Htr]
    · iapply hT
      isplitl [Hts]; · iexact Hts
      isplitl [Htr]; · iexact Htr
      isplitl [HB1 HB2]
      · iapply (Entails.of_eq (bar_all c).symm)
        isplitl [HB1] <;> iassumption
      iapply (own_reads P c); iexact Hacc
    isplitl [Har Hcr]
    · iapply hL
      isplitl [Hcr] <;> iassumption
    rw [left_exchange]; iempintro
  iintro ⟨⟨%W1, HO⟩, Hsent, HW, HK, -⟩
  iapply (run_steps P κ c k Q departs departs_inOrder W1) $$ [HO Hsent Has]
  · isplitr; · iexact HR
    isplitr; · iexact Hlev
    rw [sends_departs, waited_departs]
    isplitl [HO]; · iexact HO
    isplitr; · iempintro
    isplitr; · iempintro
    iapply hD
    isplitl [Hsent] <;> iassumption
  iintro ⟨HO, -, -, -, HG⟩
  ihave HG := hG $$ HG
  icases HG with ⟨Has, Hpay⟩
  ihave Hb := (all_back P c) $$ [Hpay HK]
  · isplitl [Hpay] <;> iassumption
  icases Hb with ⟨Hacc, Hout⟩
  iapply Hk
  isplitl [HO]; · iexact HO
  isplitl [Has]; · iexact Has
  isplitl [HW]
  · iapply (Entails.of_eq (over_waited (F := F) fun p => atPos EX (rcvC c p.1 p.2) 1 ∅ 0).symm)
    iexact HW
  isplitl [Hacc]; · iexact Hacc
  iexact Hout

/-! ## The semaphores closed -/

omit [FloatOps F] in
/-- Over the kernel's own semaphores: the copy's, the departures', the landings'. -/
theorem over_own (Φ : Own → sProp 𝕄) :
    bigSep Finset.univ Φ = iprop(Φ (.inl ()) ∗ (bigSep Finset.univ fun p : Bool × Fin 62 => Φ (.inr (false, p))) ∗ bigSep Finset.univ fun p : Bool × Fin 62 => Φ (.inr (true, p))) := by
  rw [bigSep_univ_sum, bigSep_univ_of_subsingleton (), bigSep_univ_prod (fun x : Bool × Bool × Fin 62 => Φ (.inr x)),
    bigSep_univ_eq_bigSepL [false, true] (by decide) (by decide), bigSepL_cons_cons, bigSepL_singleton]
  rfl
omit [FloatOps F] in
/-- Over all named semaphores is the barrier and the others. -/
theorem over_KC (Φ : KC → sProp 𝕄) : bigSep Finset.univ Φ = iprop(Φ barK ∗ bigSep Finset.univ fun o : Own => Φ (.inr o)) := by
  rw [bigSep_univ_sum, bigSep_univ_of_subsingleton ()]
  rfl

/-- A semaphore past its round is at zero. -/
theorem close_one (k : KC) : iprop(records P κ ∗ atPos EX (kcell (c, k)) 1 ∅ 0) ⊢ |={Set.univ}=> semVal (kcell (c, k)) 0 := by
  iintro ⟨#HR, Ha⟩
  ihave #HI := (inv_at P κ (c, k)) $$ HR
  iapply (Rounds.cell_close EX (Rd P) (Set.mem_univ (κ (c, k))) (fun h => h) (R := 1) (duties_later P (kcell (c, k))))
  isplitr; · iexact HI
  iexact Ha

/-- All of a device's are. -/
theorem close_all : iprop(records P κ ∗ bigSep Finset.univ fun k : KC => atPos EX (kcell (c, k)) 1 ∅ 0) ⊢ |={Set.univ}=> bigSep Finset.univ fun k : KC => semVal (kcell (c, k)) 0 := by
  refine (sep_mono_left (BI.bigSep_of_persistent (Finset.univ : Finset KC) (records P κ))).trans ?_
  rw [← bigSep_sep']
  exact (bigSep_mono fun k _ => close_one P κ c k).trans (bigSep_fupd _ _)

end Cert.KernelIdeal
-- ==== Proof.Body.lean ====
module

public import proofs.«01_k».proof.Proof.Exchange
public import proofs.«01_k».proof.Proof.Gen.KernelIdeal.Launch
public import proofs.«01_k».proof.Proof.Gen.KernelIdeal.Points

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the devices start from and end with -/

/-- The staged operands of device `c`. -/
def stg0 (c : Dev nD) : Vec F S768x384 .bf16 := (win0_0.blk Gen.t0_0).view.read (Elt F) (m ((c : Thread nD τ).loc main_arg0))
/-- What is staged of the second operand. -/
def stg1 (c : Dev nD) : Vec F S384x768 .bf16 := (win0_1.blk Gen.t0_0).view.read (Elt F) (m ((c : Thread nD τ).loc main_arg1))

/-- Device `c`'s product. -/
def P (c : Dev nD) : Vec F S768x768 .bf16 := prod (stg0 m c) (stg1 m c)

/-- The duties that device `c` pays. -/
def payToks (c : Dev nD) : sProp 𝕄 :=
  iprop(dutyTok EX (barC (nbr true c)) 0 false ∗ dutyTok EX (barC (nbr false c)) 0 true ∗ dutyTok EX (copyC c) 0 false
    ∗ (bigSep Finset.univ fun p : Bool × Fin 62 => dutyTok EX (sndC c p.1 p.2) 0 false)
    ∗ bigSep Finset.univ fun p : Bool × Fin 62 => dutyTok EX (rcvC (nbr p.1 c) p.1 p.2) 0 false)

/-- Device `c`'s semaphores at round `r`. -/
def places (c : Dev nD) (r : ℕ) : sProp 𝕄 := bigSep Finset.univ fun k : KC => atPos EX (kcell (c, k)) r ∅ 0

omit [FloatOps F] in
/-- A device's places, semaphore by semaphore. -/
theorem places_eq (c : Dev nD) (r : ℕ) : (places c r : sProp 𝕄)
    = iprop(atPos EX (barC c) r ∅ 0 ∗ atPos EX (copyC c) r ∅ 0 ∗ (bigSep Finset.univ fun p : Bool × Fin 62 => atPos EX (sndC c p.1 p.2) r ∅ 0)
      ∗ bigSep Finset.univ fun p : Bool × Fin 62 => atPos EX (rcvC c p.1 p.2) r ∅ 0) := by
  unfold places; rw [over_KC, over_own]; rfl

/-- What a device holds of the exchange at the start: its places and the tokens of its duties. -/
def linear (c : Dev nD) : sProp 𝕄 := iprop(places c 0 ∗ payToks c)

/-- The credits of device `c`'s waits that others pay. -/
def credits (c : Dev nD) : sProp 𝕄 :=
  iprop(cred (tallyAt (barC c) () 2) ∗ bigSep Finset.univ fun p : Bool × Fin 62 => cred (tallyAt (rcvC c p.1 p.2) () N))

/-- What device `c` starts from, beside the scratch. -/
def start (c : Dev nD) : sProp 𝕄 :=
  iprop((∃ κ, records (P m) κ ∗ linear c) ∗ credits c ∗ levAts L lv ∗ ((c : Thread nD τ).loc main_v1 ↦{fullShare} m ((c : Thread nD τ).loc main_v1)))

/-- What the body starts from: that, and the scratch. -/
def Φ₀ (c : Dev nD) : sProp 𝕄 := iprop(start m c ∗ ∃ f : Buf (Elt F) ((c : Thread nD τ).loc cc0_scratch0), ((c : Thread nD τ).loc cc0_scratch0) ↦{fullShare} f)

/-- What device `c` ends with: the gathered product, the scratch, and its semaphores at zero. -/
def Φ₁ (c : Dev nD) : sProp 𝕄 :=
  iprop(((c : Thread nD τ).loc main_v1 ↦{fullShare} gath (P m)) ∗ (∃ f : Buf (Elt F) ((c : Thread nD τ).loc cc0_scratch0), ((c : Thread nD τ).loc cc0_scratch0) ↦{fullShare} f)
    ∗ bigSep Finset.univ fun k : KC => semVal (kcell (c, k)) 0)

/-- The launch's data: the operands staged, what the body starts from and ends with, and what it owes. -/
def dats (_ : Fin 1) (c : Dev nD) : Dat τ (Elt F) Unit ℕ UU ℕ cfg0 c where
  A w := m ((cfg0.win w).arr.view.loc (c : Thread nD τ))
  after w _ := match w with
    | ⟨0, _⟩ => stg0 m c
    | ⟨1, _⟩ => stg1 m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The barrier's payloads -/

/-- The signal to the neighbour behind hands it all that it will write here. -/
theorem hand (c : Dev nD) (b : Bool) (f : Vec F S24576x768 .bf16) :
    (bigSep Finset.univ fun i : Fin 62 => outPts c (slot c (b, i)).1 (slot c (b, i)).2 f : sProp 𝕄) ⊢ (Rd (P m)).payload (barC (nbr (!b) c)) 0 b := by
  rw [show (Rd (P m)).payload (barC (nbr (!b) c)) 0 b = barPay (nbr (!b) c) b from payload_cell (P m) (nbr (!b) c) barK b]
  unfold barPay
  refine bigSep_mono fun i _ => ?_
  unfold dstPts
  rw [nbr_nbr_not, org_nbr_not]
  have h : (outPts c (org b (hop i + 1) c) (qt b i) f : sProp 𝕄) ⊢ iprop(∃ g, outPts c (org b (hop i + 1) c) (qt b i) g) := by
    iintro H
    iexists f
    iexact H
  exact h

omit [FloatOps F] in
/-- The result is the own rows and the landings of both directions. -/
theorem out_parts (c : Dev nD) (f : Vec F S24576x768 .bf16) :
    ((c : Thread nD τ).loc main_v1 ↦{fullShare} f : sProp 𝕄)
      = iprop(ownPts c f ∗ (bigSep Finset.univ fun i : Fin 62 => outPts c (slot c (false, i)).1 (slot c (false, i)).2 f)
        ∗ bigSep Finset.univ fun i : Fin 62 => outPts c (slot c (true, i)).1 (slot c (true, i)).2 f) := by
  rw [out_split, bigSep_univ_prod, bigSep_univ_eq_bigSepL [false, true] (by decide) (by decide), bigSepL_cons_cons, bigSepL_singleton]
  rfl

/-! ## The loads and the store -/

omit [FloatOps F] in
/-- The two zero offsets. -/
theorem hz : (![0, 0] : Fin 2 → Nat) = fun _ => 0 := funext fun a => by fin_cases a <;> rfl
omit [FloatOps F] in
/-- Reading the whole of the first staged operand gives it. -/
theorem read_a (f : (cc0_stg0_0 : Ref sig .tc).ty.Contents (Elt F)) :
    (Memref.whole cc0_stg0_0 : Memref sig .tc .vmem S768x384 .bf16).view.readAt (Elt F) (Rect.unit (s := S768x384) ![0, 0] S768x384.size Gen.inb_S768x384_S768x384_0_0).toLoadRect f = f :=
  Memref.readAt_unit_zero (Elt F) cc0_stg0_0 hz _ f
omit [FloatOps F] in
/-- So it does for the second. -/
theorem read_b (f : (cc0_stg1_0 : Ref sig .tc).ty.Contents (Elt F)) :
    (Memref.whole cc0_stg1_0 : Memref sig .tc .vmem S384x768 .bf16).view.readAt (Elt F) (Rect.unit (s := S384x768) ![0, 0] S384x768.size Gen.inb_S384x768_S384x768_0_0).toLoadRect f = f :=
  Memref.readAt_unit_zero (Elt F) cc0_stg1_0 hz _ f
omit [FloatOps F] in
/-- Writing the whole of the scratch leaves what was written. -/
theorem write_c (f w : (cc0_scratch0 : Ref sig .tc).ty.Contents (Elt F)) :
    ((Memref.whole cc0_scratch0 : Memref sig .tc .vmem S768x768 .bf16).access (Rect.unit (s := S768x768) ![0, 0] S768x768.size Gen.inb_S768x768_S768x768_0_0) : View sig .tc _ _ _).write (Elt F) f w Finset.univ = w :=
  Memref.write_access_unit_zero_univ (Elt F) cc0_scratch0 hz _ f w

/-! ## The body -/

/-- A buffer held whole, with its contents. -/
abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves. -/
def bodyPost (c : Dev nD) : sProp 𝕄 :=
  iprop(Φ₁ m c ∗ (dats m 0 c).owesAt () Gen.t0_0.succ ∗ stgAt c cc0_stg0_0 (stg0 m c) ∗ stgAt c cc0_stg1_0 (stg1 m c))

/-- The wait for the copy, all else done, and the semaphores' closing. -/
theorem last_wait (κ : Dev nD × KC → ℕ) (c : Dev nD) (W : Waits sig Unit) (Q : PUnit.{1} → sProp 𝕄)
    (hs : (Memref.whole cc0_scratch0 : Memref sig .tc .vmem S768x768 .bf16).view.WordExact) (hd : (ownAt c).view.WordExact) :
    iprop(records (P m) κ ∗ levAts L lv ∗ owes (c : Thread nD τ) 0 W ∗ cred (tallyAt (copyC c) () Ncopy)
        ∗ atPos EX (copyC c) 0 ∅ 0 ∗ atPos EX (barC c) 1 ∅ 0
        ∗ (bigSep Finset.univ fun p : Bool × Fin 62 => atPos EX (sndC c p.1 p.2) 1 ∅ 0)
        ∗ (bigSep Finset.univ fun p : Bool × Fin 62 => atPos EX (rcvC c p.1 p.2) 1 ∅ 0)
        ∗ (bigSepL own8 fun p => accPts c (dirShare p.1) (qt p.1 p.2) (P m c))
        ∗ (bigSep Finset.univ fun p : Bool × Fin 62 => rcvPay (P m) c p.1 p.2)
        ∗ (Φ₁ m c ∗ (∃ W' : Waits sig Unit, owes (c : Thread nD τ) 0 W') -∗ Q ⟨⟩))
      ⊢ wp frame (wpE (defs₀ (F := F)) 𝒱₀ (c : Thread nD τ) none) Set.univ
          (Prog.lift (.waitDma2 cc0_scratch1.sem (Memref.whole cc0_scratch0 : Memref sig .tc .vmem S768x768 .bf16) (ownAt c) hs hd)) Q := by
  have hr : bigSep ((Rd (P m)).duties (copyC c) 0 \ ∅) (fun d => (Rd (P m)).payload (copyC c) 0 d) = copyPay (P m) c := rest_own (P m) c (.inl ())
  have hx : (Rd (P m)).expect (copyC c) 0 = Ncopy := expect_own (P m) c (.inl ())
  have hN : (ownAt c).view.dmaCredit = Ncopy := rfl
  have hpl := places_eq (F := F) c 1
  unfold places at hpl
  iintro ⟨#HR, #Hlev, HO, Hc, Ha, Hab, Has, Har, Hacc, Hout, Hk⟩
  ihave #HI := (inv_at (P m) κ (c, copyK)) $$ HR
  unfold Prog.lift
  iapply (Rounds.wp_wait_rest_token 𝒱₀ EX (Rd (P m)) (c : Thread nD τ) none (κ := κ (c, copyK)) (sm := .dma cc0_scratch1.sem)
    (wpE_waitDma2_eq 𝒱₀ (c : Thread nD τ) none Set.univ) (Set.mem_univ _) () (O := 0) (W := W) (R := 0) (m := 0) (T := ∅)
    (by rw [Nat.zero_add, hN]; exact hx.symm)) $$ [Hc Ha HO]
  · isplitr; · iexact HI
    isplitl [Hc]; · rw [hN]; iexact Hc
    isplitl [HO]; · iexact HO
    isplitr; · rw [MayWait_zero]; iempintro
    iexact Ha
  iintro ⟨HO, Ha, -, Hp⟩
  ihave Hp := (Entails.of_eq hr) $$ Hp
  unfold copyPay
  icases Hp with ⟨Hown, Hleft⟩
  imod (close_all (P m) κ c) $$ [Hab Ha Has Har] with Hz
  · isplitr; · iexact HR
    iapply (Entails.of_eq hpl.symm)
    isplitl [Hab]; · iexact Hab
    isplitl [Ha]; · iexact Ha
    isplitl [Has] <;> iassumption
  rw [wp_ret]; imodintro
  iapply Hk
  isplitr [HO]
  · unfold Φ₁
    isplitl [Hown Hout]
    · iapply (Entails.of_eq (out_split c (gath (P m))).symm)
      isplitl [Hown]; · iexact Hown
      iexact Hout
    isplitl [Hleft Hacc]
    · iexists (P m c)
      iapply (Entails.of_eq (acc_shares c (P m c)).symm)
      isplitl [Hleft] <;> iassumption
    iexact Hz
  · iexists _; iexact HO

/-- What the body takes, with the semaphores' invariants named. -/
def bodyPre (κ : Dev nD × KC → ℕ) (c : Dev nD) : sProp 𝕄 :=
  iprop((records (P m) κ ∗ linear c) ∗ credits c ∗ levAts L lv ∗ ((c : Thread nD τ).loc main_v1 ↦{fullShare} m ((c : Thread nD τ).loc main_v1))
    ∗ (∃ f : Buf (Elt F) ((c : Thread nD τ).loc cc0_scratch0), ((c : Thread nD τ).loc cc0_scratch0) ↦{fullShare} f)
    ∗ (∃ W : Waits sig Unit, owes (c : Thread nD τ) (O₀ c) W)
    ∗ ((c : Thread nD τ).loc cc0_stg0_0 ↦{fullShare} stg0 m c) ∗ ((c : Thread nD τ).loc cc0_stg1_0 ↦{fullShare} stg1 m c))

set_option maxHeartbeats 800000 in
/-- The body on device `c`, one rule an effect up to the exchange. -/
theorem body_run (κ : Dev nD × KC → ℕ) (c : Dev nD) (Q : PUnit.{1} → sProp 𝕄) :
    iprop(bodyPre m κ c ∗ (Φ₁ m c ∗ (∃ W' : Waits sig Unit, owes (c : Thread nD τ) 0 W')
        ∗ ((c : Thread nD τ).loc cc0_stg0_0 ↦{fullShare} stg0 m c) ∗ ((c : Thread nD τ).loc cc0_stg1_0 ↦{fullShare} stg1 m c) -∗ Q ⟨⟩))
      ⊢ wp frame (wpE (defs₀ (F := F)) 𝒱₀ (c : Thread nD τ) none) Set.univ (flat (Memref.whole cc0_stg0_0) (Memref.whole cc0_stg1_0)) Q := by
  have hcopy : (Rd (P m)).payload (copyC c) 0 false = copyPay (P m) c := payload_cell (P m) c copyK false
  have hcd : false ∈ (Rd (P m)).duties (copyC c) 0 := duty_own (P m) c (.inl ())
  have hca : (Rd (P m)).amount (copyC c) 0 false = Ncopy := amount_cell (P m) c copyK false
  have hba (d : Dev nD) (b : Bool) : (Rd (P m)).amount (barC d) 0 b = 1 := amount_cell (P m) d barK b
  have hown (f : Vec F S24576x768 .bf16) : (ownPts c f : sProp 𝕄) = ((ownAt c).view.loc (c : Thread nD τ) ↦[(ownAt c).view.set]{fullShare} f) := by
    rw [ownAt_set]; rfl
  have hacc (q : PosShare TreeShare) (f : Vec F S768x768 .bf16) : ((c : Thread nD τ).loc cc0_scratch0 ↦{q} f : sProp 𝕄)
      = ((Memref.whole cc0_scratch0 : Memref sig .tc .vmem S768x768 .bf16).view.loc (c : Thread nD τ) ↦[(Memref.whole cc0_scratch0 : Memref sig .tc .vmem S768x768 .bf16).view.set]{q} f) := by
    rw [show (Memref.whole cc0_scratch0 : Memref sig .tc .vmem S768x768 .bf16).view.set = Finset.univ from View.set_whole _]
  have hstore : (((Memref.whole cc0_scratch0 : Memref sig .tc .vmem S768x768 .bf16).access (Rect.unit (s := S768x768) ![0, 0] S768x768.size Gen.inb_S768x768_S768x768_0_0) : View sig .tc _ _ _).loc (c : Thread nD τ)
      ↦{fullShare} prod (stg0 m c) (stg1 m c) : sProp 𝕄) = ((c : Thread nD τ).loc cc0_scratch0 ↦{fullShare} P m c) := rfl
  have hh1 (f : Vec F S24576x768 .bf16) : (bigSep Finset.univ fun i : Fin 62 => outPts c (slot c (false, i)).1 (slot c (false, i)).2 f : sProp 𝕄)
      ⊢ (Rd (P m)).payload ((nbr true c : Thread nD τ), SemLoc.reg barSem) 0 false := hand m c false f
  have hh2 (f : Vec F S24576x768 .bf16) : (bigSep Finset.univ fun i : Fin 62 => outPts c (slot c (true, i)).1 (slot c (true, i)).2 f : sProp 𝕄)
      ⊢ (Rd (P m)).payload ((nbr false c : Thread nD τ), SemLoc.reg barSem) 0 true := hand m c true f
  have hNc : (ownAt c).view.amount (.dma cc0_scratch1.sem) = Ncopy := rfl
  have hlow : ∀ p ∈ sends exchange, lv (barC c) () < 2 + hop p.2 := fun p _ => by rw [lv_bar]; omega
  unfold flat
  simp only [Prog.lift, Prog.bind, semSignalWord, semWaitWord, wp_deviceId]
  unfold bodyPre linear credits payToks
  rw [places_eq]
  iintro ⟨⟨⟨#HR, ⟨Hab, Hac, Has, Har⟩, Htb1, Htb2, Htc, Hts, Htr⟩, ⟨Hcb, Hcr⟩, #Hlev, Hout, ⟨%f0, Hscr⟩, ⟨%W, HO⟩, Ha, Hb⟩, Hk⟩
  -- the loads and the store
  iapply (wp_load 𝒱₀ (c : Thread nD τ) none Set.univ (m := Memref.whole cc0_stg0_0) (Finset.subset_univ _)) $$ Ha; iintro Ha
  rw [read_a]
  iapply (wp_load 𝒱₀ (c : Thread nD τ) none Set.univ (m := Memref.whole cc0_stg1_0) (Finset.subset_univ _)) $$ Hb; iintro Hb
  rw [read_b]
  iapply (wp_load 𝒱₀ (c : Thread nD τ) none Set.univ (m := Memref.whole cc0_scratch0) (Finset.subset_univ _)) $$ Hscr; iintro Hscr
  iapply (wp_store 𝒱₀ (c : Thread nD τ) none Set.univ (m := Memref.whole cc0_scratch0)
    (r := Rect.unit (s := S768x768) ![0, 0] S768x768.size Gen.inb_S768x768_S768x768_0_0) (Mk := Finset.univ) (Finset.subset_univ _)) $$ Hscr; iintro Hscr
  rw [write_c]
  ihave Hscr := (Entails.of_eq (hstore.trans (acc_shares c (P m c)))) $$ Hscr
  icases Hscr with ⟨Hleft, Hacc⟩
  ihave Hout := (Entails.of_eq (out_parts c _)) $$ Hout
  icases Hout with ⟨Hown, Ho1, Ho2⟩
  -- the copy
  ihave Hleft := (Entails.of_eq (hacc _ _)) $$ Hleft
  ihave Hown := (Entails.of_eq (hown _)) $$ Hown
  ihave #HIc := (inv_at (P m) κ (c, copyK)) $$ HR
  ihave #HRc := (reached_at (P m) κ (c, copyK)) $$ HR
  iapply (Rounds.wp_copy_pointsTo 𝒱₀ EX (Rd (P m)) (c : Thread nD τ) none (κ := κ (c, copyK)) (r := 0) (d := false) hcd () Ncopy hNc hca
      (by
        rw [hcopy]; unfold copyPay
        exact BIClass.sep_mono (Entails.of_eq ((pointsTo_congr fun x hx => landed_own (P m) c _ x hx).trans (hown _).symm)) (Entails.of_eq (hacc _ _).symm)))
    $$ [Hleft Hown Htc]
  · isplitr; · iexact HIc
    isplitl [Hleft]; · iexact Hleft
    isplitl [Hown]; · iexact Hown
    isplitl [Htc]; · iexact Htc
    iexact HRc
  iintro Hcc
  -- the two signals
  ihave #HI1 := (inv_at (P m) κ (nbr true c, barK)) $$ HR
  ihave #HR1 := (reached_at (P m) κ (nbr true c, barK)) $$ HR
  iapply (Rounds.wp_signal 𝒱₀ EX (Rd (P m)) (c : Thread nD τ) none (dst := (nbr true c : Thread nD τ)) (κ := κ (nbr true c, barK))
      (d := false) (duty_bar (P m) _ false) ((hba (nbr true c) false).trans (by decide)) () (O₁ c) rfl) $$ [HO Htb1 Ho1]
  · isplitr; · iexact HI1
    isplitl [HO]; · iexact HO
    isplitl [Htb1]; · iexact Htb1
    isplitl [Ho1]; · iapply (hh1 _); iexact Ho1
    iexact HR1
  iintro HO
  ihave #HI2 := (inv_at (P m) κ (nbr false c, barK)) $$ HR
  ihave #HR2 := (reached_at (P m) κ (nbr false c, barK)) $$ HR
  unfold O₁
  iapply (Rounds.wp_signal 𝒱₀ EX (Rd (P m)) (c : Thread nD τ) none (dst := (nbr false c : Thread nD τ)) (κ := κ (nbr false c, barK))
      (d := true) (duty_bar (P m) _ true) ((hba (nbr false c) true).trans (by decide)) () (owedL c (sends exchange)) rfl) $$ [HO Htb2 Ho2]
  · isplitr; · iexact HI2
    isplitl [HO]; · iexact HO
    isplitl [Htb2]; · iexact Htb2
    isplitl [Ho2]; · iapply (hh2 _); iexact Ho2
    iexact HR2
  iintro HO
  -- the wait at the barrier
  ihave #HI3 := (inv_at (P m) κ (c, barK)) $$ HR
  iapply (Rounds.wp_wait_rest_token 𝒱₀ EX (Rd (P m)) (c : Thread nD τ) none (κ := κ (c, barK))
      (wpE_semWait_eq 𝒱₀ (c : Thread nD τ) none Set.univ) (Set.mem_univ _) () (O := owedL c (sends exchange)) (W := W) (R := 0) (m := 0) (T := ∅)
      (by rw [expect_bar]; decide)) $$ [Hcb HO Hab]
  · isplitr; · iexact HI3
    isplitl [Hcb]; · iexact Hcb
    isplitl [HO]; · iexact HO
    isplitr; · iapply (mayWait_owedL c (.reg barSem) (sends exchange) hlow); iexact Hlev
    iexact Hab
  iintro ⟨HO, Hab, -, Hpay⟩
  ihave Hp := (Entails.of_eq (rest_bar (P m) c)) $$ Hpay
  icases Hp with ⟨Hd1, Hd2⟩
  -- the exchange
  iapply (run_exchange (P m) κ c _ Q _) $$ [HO Hd1 Hd2 Hacc Hts Htr Has Har Hcr]
  · isplitr; · iexact HR
    isplitr; · iexact Hlev
    isplitl [HO]; · iexact HO
    isplitl [Hd1]; · iexact Hd1
    isplitl [Hd2]; · iexact Hd2
    isplitl [Hacc]; · iexact Hacc
    isplitl [Hts]; · iexact Hts
    isplitl [Htr]; · iexact Htr
    isplitl [Has]; · iexact Has
    isplitl [Har]; · iexact Har
    iexact Hcr
  iintro ⟨⟨%W2, HO⟩, Has, Har, Hacc, Hout⟩
  iapply (last_wait m κ c W2 Q _ _)
  isplitr; · iexact HR
  isplitr; · iexact Hlev
  isplitl [HO]; · iexact HO
  isplitl [Hcc]; · iexact Hcc
  isplitl [Hac]; · iexact Hac
  isplitl [Hab]; · iexact Hab
  isplitl [Has]; · iexact Has
  isplitl [Har]; · iexact Har
  isplitl [Hacc]; · iexact Hacc
  isplitl [Hout]; · iexact Hout
  iintro ⟨HP, HO⟩
  iapply Hk
  isplitl [HP]; · iexact HP
  isplitl [HO]; · iexact HO
  isplitl [Ha] <;> iassumption

end Cert.KernelIdeal
-- ==== Proof.Deal.lean ====
module

public import proofs.«01_k».proof.Proof.Body

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Where the staging buffers' rounds lie in the ghost state. -/
abbrev EP : Emb (UR sig nD τ) (MT nD τ sig Unit (Elt F) ℕ UU ℕ) := embL

/-! ## The semaphores' invariants, and who holds which duty at the launch -/

/-- The semaphores of the exchange, on all devices. -/
def ringCells : Finset (GSem nD τ sig) := Finset.univ.map ⟨kcell, kcell_injective⟩

/-- The duties of a device's own semaphores: two at its barrier, one at each other. -/
abbrev dutyOf (x : Dev nD × (Bool ⊕ Own)) : GSem nD τ sig × ℕ × Bool :=
  match x.2 with
  | .inl b => (barC x.1, 0, b)
  | .inr o => (kcell (x.1, .inr o), 0, false)

/-- Different duties are different. -/
theorem dutyOf_injective : Function.Injective dutyOf := by
  rintro ⟨c, b | o⟩ ⟨c', b' | o'⟩ h
  · have h0 : kcell (c, barK) = kcell (c', barK) := congrArg Prod.fst h
    have h1 : c = c' := congrArg Prod.fst (kcell_injective h0)
    have h2 : b = b' := congrArg (fun x => x.2.2) h
    rw [h1, h2]
  · have h0 : kcell (c, barK) = kcell (c', .inr o') := congrArg Prod.fst h
    exact absurd (congrArg Prod.snd (kcell_injective h0)) (by simp [barK])
  · have h0 : kcell (c, .inr o) = kcell (c', barK) := congrArg Prod.fst h
    exact absurd (congrArg Prod.snd (kcell_injective h0)) (by simp [barK])
  · have h0 : kcell (c, .inr o) = kcell (c', .inr o') := congrArg Prod.fst h
    have h1 : c = c' := congrArg Prod.fst (kcell_injective h0)
    have h2 : o = o' := Sum.inr.inj (congrArg Prod.snd (kcell_injective h0))
    rw [h1, h2]

/-- The duties of the exchange, on all devices. -/
def ringToks : Finset (GSem nD τ sig × ℕ × Bool) := Finset.univ.map ⟨dutyOf, dutyOf_injective⟩

/-- The ghost state at the launch. -/
def u₀ : UU :=
  (initOf (Pipeline.cells cfgs Gen.cellOf_inj) (Pipeline.launchToks cfgs Gen.cellOf_inj), initOf ringCells ringToks)

/-- The duties of device `c`'s own semaphores. -/
def toks (c : Dev nD) : sProp 𝕄 :=
  iprop((dutyTok EX (barC c) 0 false ∗ dutyTok EX (barC c) 0 true) ∗ dutyTok EX (copyC c) 0 false
    ∗ (bigSep Finset.univ fun p : Bool × Fin 62 => dutyTok EX (sndC c p.1 p.2) 0 false)
    ∗ bigSep Finset.univ fun p : Bool × Fin 62 => dutyTok EX (rcvC c p.1 p.2) 0 false)

/-- What the launch deals device `c`. -/
def G (c : Dev nD) : sProp 𝕄 :=
  iprop((bigSep Finset.univ fun k : KC => roundState EX (Rd (P m)) (kcell (c, k)) 0)
    ∗ (bigSep Finset.univ fun k : KC => iprop(atPos EX (kcell (c, k)) 0 ∅ 0 ∗ reached EX (kcell (c, k)) 0)) ∗ toks c)

/-- What it holds once all devices' invariants are made. -/
def G' (c : Dev nD) : sProp 𝕄 := iprop(∃ κ, records (P m) κ ∗ linear c)

omit [FloatOps F] in
/-- The duties' tokens, dealt by the device whose semaphore they are of. -/
theorem deal_toks : bigSep ringToks (fun x => (dutyTok EX x.1 x.2.1 x.2.2 : sProp 𝕄)) = bigSep Finset.univ fun c : Dev nD => toks c := by
  unfold ringToks; rw [bigSep_map, bigSep_univ_prod]
  refine bigSep_congr fun c _ => ?_
  rw [bigSep_univ_sum, over_own, bigSep_univ_eq_bigSepL [false, true] (by decide) (by decide), bigSepL_cons_cons, bigSepL_singleton]
  rfl

/-- The exchange's ghost state gives each device its part. -/
theorem fund_ring : BI.own (EX (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KC => Φ (kcell (c, k)) := by
    unfold ringCells; rw [bigSep_map, bigSep_univ_prod]; rfl
  iintro HX
  imod (Rounds.fund EX (Rd (P m)) ringCells ringToks) $$ HX with ⟨Hst, Hr, Hat, Htok⟩
  imodintro
  ihave Hst' := (Entails.of_eq (hX fun g => roundState EX (Rd (P m)) g 0)) $$ Hst
  ihave Hat' := (Entails.of_eq (hX fun g => atPos EX g 0 ∅ 0)) $$ Hat
  ihave Hr' := (Entails.of_eq (hX fun g => reached EX g 0)) $$ Hr
  ihave Htok' := (Entails.of_eq (deal_toks (F := F))) $$ Htok
  unfold G; simp only [bigSep_sep']
  isplitl [Hst']; · iexact Hst'
  isplitl [Hat' Hr']
  · isplitl [Hat'] <;> iassumption
  iexact Htok'

omit [FloatOps F] in
/-- The barrier's semaphore is the one that outlives the kernel. -/
theorem unscopedSems0_eq (c : Dev nD) : (unscopedSems0 c : sProp 𝕄) = semVal (barC c) 0 := by
  unfold unscopedSems0; rw [bigSep_eq_bigSepL_of_eq [SemLoc.reg barSem] (by decide +kernel) (by decide)]; rfl

omit [FloatOps F] in
/-- The named semaphores at zero are the barrier's and the kernel's own. -/
theorem sems0_eq (c : Dev nD) :
    (bigSep Finset.univ fun k : KC => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, over_KC]; rfl

/-- A device's semaphores at zero, with its ghost state, give their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KC => iprop(∃ κ : ℕ, cellInv EX (Rd (P m)) κ (kcell (c, k))))
          ∗ (bigSep Finset.univ fun k : KC => iprop(atPos EX (kcell (c, k)) 0 ∅ 0 ∗ reached EX (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KC => semVal (kcell (c, k)) 0) ∗ bigSep Finset.univ fun k : KC => roundState EX (Rd (P m)) (kcell (c, k)) 0)
      ⊢ (|={Set.univ}=> bigSep Finset.univ fun k : KC => iprop(∃ κ : ℕ, cellInv EX (Rd (P m)) κ (kcell (c, k))) : sProp 𝕄) from by
        rw [← bigSep_sep']
        exact (bigSep_mono fun k _ => (Rounds.body_intro EX (Rd (P m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Each transfer taken at the device it is for, or at the device it is from. -/
def around : Dev nD × (Bool × Fin 62) ≃ Dev nD × (Bool × Fin 62) where
  toFun x := (nbr x.2.1 x.1, x.2)
  invFun x := (nbr (!x.2.1) x.1, x.2)
  left_inv x := by simp only [nbr_not_nbr]
  right_inv x := by simp only [nbr_nbr_not]

omit [FloatOps F] in
/-- Every duty goes to the device that pays it. -/
theorem toks_around : (bigSep Finset.univ fun c : Dev nD => (toks c : sProp 𝕄)) ⊢ bigSep Finset.univ fun c : Dev nD => payToks c := by
  have hr : (bigSep Finset.univ fun c : Dev nD => bigSep Finset.univ fun p : Bool × Fin 62 => (dutyTok EX (rcvC c p.1 p.2) 0 false : sProp 𝕄))
      = bigSep Finset.univ fun c : Dev nD => bigSep Finset.univ fun p : Bool × Fin 62 => dutyTok EX (rcvC (nbr p.1 c) p.1 p.2) 0 false := by
    rw [← bigSep_univ_prod (fun x : Dev nD × (Bool × Fin 62) => (dutyTok EX (rcvC x.1 x.2.1 x.2.2) 0 false : sProp 𝕄)), bigSep_univ_equiv around, bigSep_univ_prod]
    rfl
  unfold toks payToks
  rw [bigSep_sep', bigSep_sep', bigSep_sep', bigSep_sep', bigSep_sep', bigSep_sep', bigSep_sep', bigSep_sep', hr,
    bigSep_univ_equiv (ring true) (fun c : Dev nD => (dutyTok EX (barC c) 0 false : sProp 𝕄)),
    bigSep_univ_equiv (ring false) (fun c : Dev nD => (dutyTok EX (barC c) 0 true : sProp 𝕄))]
  iintro ⟨⟨H1, H2⟩, H3, H4, H5⟩
  isplitl [H1]; · iexact H1
  isplitl [H2]; · iexact H2
  isplitl [H3]; · iexact H3
  isplitl [H4] <;> iassumption

/-- The devices' invariants, tokens and places, each kind brought together. -/
theorem regroup :
    (bigSep Finset.univ fun c : Dev nD => iprop((bigSep Finset.univ fun k : KC => iprop(∃ κ : ℕ, cellInv EX (Rd (P m)) κ (kcell (c, k))))
          ∗ (bigSep Finset.univ fun k : KC => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × KC => iprop(∃ κ : ℕ, cellInv EX (Rd (P m)) κ (kcell ck))),
    bigSep_congr (s := Finset.univ) (fun (c : Dev nD) _ => bigSep_sep' Finset.univ (fun k : KC => (atPos EX (kcell (c, k)) 0 ∅ 0 : sProp 𝕄)) (fun k => reached EX (kcell (c, k)) 0)),
    bigSep_sep', ← bigSep_univ_prod (fun ck : Dev nD × KC => (reached EX (kcell ck) 0 : sProp 𝕄))]
  iintro ⟨HI, ⟨Hat, #HR⟩, Htok⟩
  ihave HK := (BI.bigSep_exists_pi Finset.univ (fun (ck : Dev nD × KC) (κ : ℕ) => (cellInv EX (Rd (P m)) κ (kcell ck) : sProp 𝕄))) $$ HI
  icases HK with ⟨%κ, #HI⟩
  ihave Htk := (toks_around (F := F)) $$ Htok
  have hone (c : Dev nD) : iprop(records (P m) κ ∗ linear c) ⊢ G' m c := by
    unfold G'
    iintro H
    iexists κ
    iexact H
  have hall : iprop(records (P m) κ ∗ bigSep Finset.univ fun c : Dev nD => linear c) ⊢ bigSep Finset.univ (G' m) :=
    (sep_mono_left (BI.bigSep_of_persistent Finset.univ (records (P m) κ))).trans (by
      rw [← bigSep_sep']
      exact bigSep_mono fun c _ => hone c)
  have hlin : iprop((bigSep Finset.univ fun c : Dev nD => bigSep Finset.univ fun k : KC => (atPos EX (kcell (c, k)) 0 ∅ 0 : sProp 𝕄)) ∗ bigSep Finset.univ fun c : Dev nD => payToks c)
      ⊢ bigSep Finset.univ fun c : Dev nD => linear c := by
    rw [← bigSep_sep']
    exact .rfl
  iapply hall
  isplitr
  · unfold records; isplitl; · iexact HI
    iexact HR
  · iapply hlin
    isplitl [Hat]; · iexact Hat
    iexact Htk

/-- All devices' invariants are made at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal
-- ==== Proof.Launch.lean ====
module

public import proofs.«01_k».proof.Proof.Deal
public import Idealize.ShloMosaic.Lib.Pipeline.CollectiveSegs

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch's state: the memory, every counter zero. -/
def s₀ : MemSt nD τ sig (Elt F) := ⟨m, fun _ => 0, ρ⟩

/-! ## The credits of the launch -/

/-- Barriers of different devices are different. -/
theorem barC_eq_iff {a b : Dev nD} : barC a = barC b ↔ a = b :=
  ⟨fun h => congrArg Prod.fst (kcell_injective (show kcell (a, barK) = kcell (b, barK) from h)), fun h => h ▸ rfl⟩

/-- So are landings of different devices or transfers. -/
theorem rcvC_eq_iff {a c : Dev nD} {b b' : Bool} {i i' : Fin 62} : rcvC a b i = rcvC c b' i' ↔ a = c ∧ b = b' ∧ i = i' := by
  refine ⟨fun h => ?_, by rintro ⟨rfl, rfl, rfl⟩; rfl⟩
  have h0 := kcell_injective (show kcell (a, xferK b true i) = kcell (c, xferK b' true i') from h)
  have h1 := Prod.mk.inj (Prod.mk.inj (Sum.inr.inj (Sum.inr.inj (congrArg Prod.snd h0)))).2
  exact ⟨congrArg Prod.fst h0, h1.1, h1.2⟩

/-- A barrier is not a landing. -/
theorem barC_ne_rcvC (a c : Dev nD) (b : Bool) (i : Fin 62) : barC a ≠ rcvC c b i := fun h => by
  have h0 := congrArg Prod.snd (kcell_injective (show kcell (a, barK) = kcell (c, xferK b true i) from h))
  exact absurd h0 (by simp [barK, xferK])

/-- A device's neighbour is `c` when it is `c`'s neighbour the other way. -/
theorem nbr_eq_iff (b : Bool) (d c : Dev nD) : nbr b d = c ↔ d = nbr (!b) c :=
  ⟨fun h => by rw [← h, nbr_not_nbr], fun h => by rw [h, nbr_nbr_not]⟩

/-- No transfer owes at a barrier. -/
theorem owedL_bar (d c : Dev nD) (l : List (Bool × Fin 62)) : owedL d l (barC c) () = 0 :=
  Nat.eq_zero_of_not_pos fun h => by
    obtain ⟨p, _, e⟩ := owedL_pos h
    exact barC_ne_rcvC _ _ _ _ e

/-- What a list of transfers owes at a landing. -/
theorem owedL_rcv (d c : Dev nD) (b : Bool) (i : Fin 62) :
    ∀ l : List (Bool × Fin 62), owedL d l (rcvC c b i) () = (l.map fun p => if p = (b, i) then (if d = nbr (!b) c then N else 0) else 0).sum
  | [] => rfl
  | p :: l => by
    rw [owedL_cons, Pi.add_apply, Finsupp.add_apply, owedL_rcv d c b i l, List.map_cons, List.sum_cons, tallyAt_apply, add_comm]
    congr 1
    by_cases hp : p = (b, i)
    · subst hp
      rw [if_pos rfl]
      exact if_congr ((and_iff_left rfl).trans (rcvC_eq_iff.trans ⟨fun h => (nbr_eq_iff b d c).mp h.1.symm, fun h => ⟨((nbr_eq_iff b d c).mpr h).symm, rfl, rfl⟩⟩)) rfl rfl
    · rw [if_neg hp, if_neg fun h => hp (Prod.ext (rcvC_eq_iff.mp h.1).2.1.symm (rcvC_eq_iff.mp h.1).2.2.symm)]

/-- What device `d` owes at device `c`'s barrier: one if it is a neighbour. -/
theorem owed_bar (d c : Dev nD) : O₀ d (barC c) () = (if d = nbr true c then 1 else 0) + (if d = nbr false c then 1 else 0) := by
  have h (b : Bool) : (tallyAt (barC (nbr b d)) () 1 : CellTallies nD τ sig Unit) (barC c) () = if d = nbr (!b) c then 1 else 0 := by
    rw [tallyAt_apply]
    exact if_congr ((and_iff_left rfl).trans (barC_eq_iff.trans ⟨fun e => (nbr_eq_iff b d c).mp e.symm, fun e => ((nbr_eq_iff b d c).mpr e).symm⟩)) rfl rfl
  unfold O₀ O₁
  rw [Pi.add_apply, Finsupp.add_apply, Pi.add_apply, Finsupp.add_apply, owedL_bar, h, h, Nat.zero_add]
  rfl

/-- What device `d` owes at a landing on device `c`: the transfer, if it sends it. -/
theorem owed_rcv (d c : Dev nD) (b : Bool) (i : Fin 62) : O₀ d (rcvC c b i) () = if d = nbr (!b) c then N else 0 := by
  have h (e : Dev nD) : (tallyAt (barC e) () 1 : CellTallies nD τ sig Unit) (rcvC c b i) () = 0 := by
    rw [tallyAt_apply, if_neg fun h => barC_ne_rcvC _ _ _ _ h.1.symm]
  unfold O₀ O₁
  rw [Pi.add_apply, Finsupp.add_apply, Pi.add_apply, Finsupp.add_apply, h, h, owedL_rcv,
    ← List.sum_toFinset _ sends_nodup, sends_all, Finset.sum_ite_eq' Finset.univ (b, i) fun _ => if d = nbr (!b) c then N else 0, if_pos (Finset.mem_univ _)]
  rfl

/-- All devices together owe a barrier two. -/
theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nbr true c) fun _ => 1, Finset.sum_ite_eq' Finset.univ (nbr false c) fun _ => 1, if_pos (Finset.mem_univ _), if_pos (Finset.mem_univ _)]

/-- They owe a landing its one transfer. -/
theorem launch_rcv (c : Dev nD) (b : Bool) (i : Fin 62) :
    tallyOn (rcvC c b i) (launchCredit (Pipeline.owing O₀) 0 (rcvC c b i)) = (tallyAt (rcvC c b i) () N : CellTallies nD τ sig Unit) := by
  unfold tallyAt; refine congrArg _ (Finsupp.ext fun u => ?_); cases u
  rw [Pipeline.launchCredit_owing, Finsupp.single_eq_same, Finset.sum_congr rfl fun d _ => owed_rcv d c b i, Finset.sum_ite_eq' Finset.univ (nbr (!b) c) fun _ => N,
    if_pos (Finset.mem_univ _)]

omit [FloatOps F] in
/-- The credits of the launch give a device those of its waits. -/
theorem creds (c : Dev nD) : (Pipeline.launchCred O₀ c : sProp 𝕄) ⊢ credits c := by
  have hin : Finset.univ.map ⟨kloc, kloc_injective⟩ ⊆ (Finset.univ : Finset (SemLoc sig)) := Finset.subset_univ _
  have hall : (Pipeline.launchCred O₀ c : sProp 𝕄)
      ⊢ bigSep Finset.univ fun k : KC => cred (tallyOn (kcell (c, k)) (launchCredit (Pipeline.owing O₀) 0 (kcell (c, k)))) := by
    unfold Pipeline.launchCred
    refine (bigSep_subset hin).trans ?_
    rw [bigSep_map]
    rfl
  refine hall.trans ?_
  rw [over_KC, over_own]
  unfold credits
  have hb : cred (tallyOn (kcell (c, barK)) (launchCredit (Pipeline.owing O₀) 0 (kcell (c, barK)))) = (cred (tallyAt (barC c) () 2) : sProp 𝕄) :=
    congrArg cred (launch_bar c)
  have hr : (bigSep Finset.univ fun p : Bool × Fin 62 => cred (tallyOn (kcell (c, .inr (.inr (true, p)))) (launchCredit (Pipeline.owing O₀) 0 (kcell (c, .inr (.inr (true, p)))))))
      = (bigSep Finset.univ fun p : Bool × Fin 62 => cred (tallyAt (rcvC c p.1 p.2) () N) : sProp 𝕄) :=
    bigSep_congr fun p _ => congrArg cred (launch_rcv c p.1 p.2)
  rw [hb, hr]
  iintro ⟨H1, -, -, H2⟩
  isplitl [H1] <;> iassumption

/-! ## The launch's conditions -/

/-- The staging semaphores are the first two. -/
theorem stage_lt : ∀ (w : Fin cfg0.W) (s : Fin (cfg0.win w).nbuf), ((cfg0.win w).sem s).val < 2 := by decide +kernel

/-- The kernel's own come after them. -/
theorem onum_ge (o : Own) : 2 ≤ onum o := by rcases o with _ | ⟨r, b, i⟩ <;> simp only [onum] <;> omega

/-- No semaphore of the exchange is a staging semaphore. -/
theorem stage_ne (w : Fin cfg0.W) (s : Fin (cfg0.win w).nbuf) (o : Own) : osem o ≠ .dma ((cfg0.win w).sem s) := fun h => by
  have h1 := ksem_val o
  rw [SemLoc.dma.inj h] at h1
  have := stage_lt w s
  have := onum_ge o
  omega

/-- The staging semaphores' level is zero. -/
theorem stage_lv (c : Dev nD) (w : Fin cfg0.W) (s : Fin (cfg0.win w).nbuf) : lv ((c : Thread nD τ), .dma ((cfg0.win w).sem s)) () = 0 := by
  have h : what (.dma ((cfg0.win w).sem s)) = none := by
    unfold what
    refine dif_neg ?_
    rintro ⟨_ | o, h⟩
    · cases h
    · exact stage_ne w s o h
  show (what (.dma ((cfg0.win w).sem s))).elim 0 levOf = 0
  rw [h]; rfl

/-- Every DMA semaphore lives for the kernel's run only. -/
theorem scoped_dma : ∀ s : DmaSem sig, (SemLoc.dma s : SemLoc sig).isScoped .tc = true := by decide +kernel

/-- The kernel's own semaphores are distinct and not the staging ones. -/
theorem ownSemFacts : Pipeline.OwnSemFacts cfg0.spec osem := ⟨fun o => scoped_dma (ksem o), osem_injective, fun o w s => stage_ne w s o⟩

/-- Every operand is held whole. -/
theorem share_eq (c : Dev nD) (w : Fin cfg0.W) : (dats m 0 c).share w = fullShare := by unfold Dat.share; split <;> rfl

/-- What the launch hands a device is what its body's start needs. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hu : (Pipeline.unscopedRestP Pipeline.Prefetch.none cfg0.spec c (fun b => m ((c : Thread nD τ).loc b)) : sProp 𝕄)
      = ((c : Thread nD τ).loc main_v1 ↦{fullShare} m ((c : Thread nD τ).loc main_v1)) :=
    (Pipeline.unscopedRestP_none _ _ _).trans (Gen.unscopedRest0_eq c _)
  rw [hu]
  iintro ⟨Hout, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hout
  · iempintro

/-- With the scratch it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = _ from Gen.scopedRest0_eq c]
  unfold Φ₀
  iintro ⟨Hs, -, Hr⟩
  isplitl [Hs] <;> iassumption

/-- What device `c` has left to read: its barrier, and the gathered product. -/
def Y (c : Dev nD) : sProp 𝕄 := iprop(unscopedSems0 c ∗ ((c : Thread nD τ).loc main_v1 ↦{fullShare} gath (P m)))

/-- What the body ends with closes the kernel: the semaphores are back at zero. -/
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, show (Pipeline.scopedRest cfg0.spec c : sProp 𝕄) = _ from Gen.scopedRest0_eq c]
  unfold Φ₁ Y
  rw [sems0_eq]
  iintro ⟨Ho, Hs, Hu, Hown⟩
  isplitl [Hu Ho]
  · isplitl [Hu] <;> iassumption
  isplitl [Hown] <;> iassumption

/-- The staging waits are allowed. -/
theorem waits (c : Dev nD) : (levAts L lv : sProp 𝕄) ⊢ Pipeline.cellsWaits cfgs (dats m) () 0 c :=
  Pipeline.cellsWaits_intro cfgs (dats m) () 0 c fun w s t =>
    mayWait_low c _ (stage_lv c w s) _ (by
      rcases t with ⟨_ | _, ht⟩
      · exact Or.inl rfl
      · exact Or.inr rfl)

/-! ## The body, as the launch asks for it -/

omit [FloatOps F] in
/-- A whole staged buffer held is `stgAt`. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄) = stgAt c b X :=
  owns_whole_eq (c : Thread nD τ) b fullShare X

/-- What the body starts from, with the staged operands. -/
def stagedPre (c : Dev nD) : sProp 𝕄 :=
  iprop(Φ₀ m c ∗ (dats m 0 c).owesAt () Gen.t0_0.castSucc
    ∗ (∃ d, stgAt c cc0_stg0_0 ((dats m 0 c).before (0 : Fin 2) Gen.t0_0 d))
    ∗ (∃ d, stgAt c cc0_stg1_0 ((dats m 0 c).before (1 : Fin 2) Gen.t0_0 d)))

/-- The body between the points of the launch. -/
theorem staged_run (c : Dev nD) :
    stagedPre m c ⊢ wp frame (wpE (defs₀ (F := F)) 𝒱₀ (c : Thread nD τ) none) Set.univ (flat (Memref.whole cc0_stg0_0) (Memref.whole cc0_stg1_0)) (fun _ => bodyPost m c) := by
  have hb0 (d) : (dats m 0 c).before (0 : Fin 2) Gen.t0_0 d = stg0 m c := by unfold Dat.before; rw [if_pos (Gen.fetch0_0 Gen.t0_0)]; rfl
  have hb1 (d) : (dats m 0 c).before (1 : Fin 2) Gen.t0_0 d = stg1 m c := by unfold Dat.before; rw [if_pos (Gen.fetch0_1 Gen.t0_0)]; rfl
  unfold stagedPre Φ₀ start
  iintro ⟨⟨⟨⟨%κ, Hg⟩, Hc, Hlev, Hout⟩, Hscr⟩, Ho, ⟨%d0, %g0, %hg0, Ha⟩, ⟨%d1, %g1, %hg1, Hb⟩⟩
  rw [hb0] at hg0
  rw [hb1] at hg1
  subst hg0
  subst hg1
  unfold Dat.owesAt Pipeline.owesWithin
  icases Ho with ⟨%W, %hW, HO⟩
  rw [show (dats m 0 c).owed Gen.t0_0.castSucc = O₀ c from rfl]
  iapply (body_run m κ c fun _ => bodyPost m c)
  isplitr []
  · unfold bodyPre
    isplitl [Hg]; · iexact Hg
    isplitl [Hc]; · iexact Hc
    isplitl [Hlev]; · iexact Hlev
    isplitl [Hout]; · iexact Hout
    isplitl [Hscr]; · iexact Hscr
    isplitl [HO]; · iexists W; iexact HO
    isplitl [Ha] <;> iassumption
  · iintro ⟨HΦ, ⟨%W', HO⟩, Ha, Hb⟩
    unfold bodyPost Dat.owesAt Pipeline.owesWithin
    rw [show (dats m 0 c).owed Gen.t0_0.succ = 0 from rfl]
    isplitl [HΦ]; · iexact HΦ
    isplitl [HO]
    · iexists W'
      isplitr; · ipureintro; exact fun _ _ => Or.inl trivial
      iexact HO
    isplitl [Ha]
    · iexists _; isplitr; · (ipureintro; rfl)
      iexact Ha
    iexists _; isplitr; · (ipureintro; rfl)
    iexact Hb

set_option maxRecDepth 8000 in
/-- The body does what the launch asks of it. -/
theorem body_obligation (c : Dev nD) : BodyObligation (dats (F := F) m 0 c) (defs₀ (F := F)) 𝒱₀ () Set.univ := fun t => by
  rw [show t = Gen.t0_0 from Gen.fin_N0 t]
  have hW (Φ : Fin cfg0.W → sProp 𝕄) : bigSep Finset.univ Φ = iprop(Φ (0 : Fin 2) ∗ Φ (1 : Fin 2)) := Gen.bigSep_W0 Φ
  rw [hW, hW]
  simp only [owns_eq]
  have h : stagedPre m c ⊢ wp frame (wpE (defs₀ (F := F)) 𝒱₀ (c : Thread nD τ) none) Set.univ (Gen.bodyAt0 Gen.t0_0) (fun _ => bodyPost m c) := by
    rw [show Gen.bodyAt0 (F := F) Gen.t0_0 = flat (Memref.whole cc0_stg0_0) (Memref.whole cc0_stg1_0) from body_eq _ _ _ _]
    exact staged_run m c
  have hd : defs₀ (F := F) .tc (0 : Fin 1) (Gen.t0_0, cfg0.slots Gen.t0_0) = Gen.bodyAt0 Gen.t0_0 := rfl
  have h1 : (dats m 0 c).Φ Gen.t0_0.castSucc = Φ₀ m c := rfl
  have h2 : (dats m 0 c).Φ Gen.t0_0.succ = Φ₁ m c := rfl
  have h3 : (dats m 0 c).after 0 Gen.t0_0 = stg0 m c := rfl
  have h4 : (dats m 0 c).after 1 Gen.t0_0 = stg1 m c := rfl
  rw [h1, h2, h3, h4, hd]
  unfold stagedPre bodyPost at h
  convert h using 8 <;> rfl

/-! ## The run -/

/-- The final memory: each device's result holds the gathered product and its operands what they held. -/
def QC : PUnit × MemSt nD τ sig (Elt F) → Prop := fun r =>
  (∀ c : Dev nD, r.2.mem ((c : Thread nD τ).loc main_v1) = gath (P m)
    ∧ r.2.mem ((c : Thread nD τ).loc main_arg0) = m ((c : Thread nD τ).loc main_arg0) ∧ r.2.mem ((c : Thread nD τ).loc main_arg1) = m ((c : Thread nD τ).loc main_arg1))
  ∧ r.2.sem = fun _ => 0

set_option maxRecDepth 8000 in
/-- From any memory with its semaphores at zero, for any float values, the program's every run ends, and then every device's result holds the gathered
    product, its operands are unchanged and all semaphores are at zero. -/
theorem run_main : θ_run defs (onTc (τ := τ) (main (F := F))) (s₀ m ρ) (QC m) :=
  Pipeline.θ_run_region_owing_glob_pf (fun p => (cfgs p).toPCfg) (fun p => (cfgs p).toPCfg_adm) (dats m) () Gen.cellOf_inj (0 : Fin 1)
    Gen.winFacts0.to₀ ownSemFacts (Pipeline.PreFacts.none _) EP defs₀ 𝒱₀ m ρ main
    (hmain := fun _ => rfl)
    (hbody := fun c => (body_obligation m c).loose) (hne := Gen.block_pos0) (harr := Gen.arr_whole0) (hstage := Gen.stage_whole0) (hshare := share_eq m)
    (hdistinct := Gen.winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m) (hout := phi1_exit m)
    (QY := fun c s => s.mem ((c : Thread nD τ).loc main_v1) = gath (P m) ∧ ∀ sm : SemLoc sig, sm.isScoped .tc = false → s.sem ((c.tc : Thread nD τ), sm) = 0)
    (hY := fun c s' => by
      unfold Y
      iintro ⟨⟨Hu, Ho⟩, -, HSI⟩
      icombine HSI Ho gives %ho
      imod (Pipeline.unscopedSems0_read (X := unscopedSems0 c) (c := c) fupd_intro s') $$ [Hu HSI] with ⟨%hu, HSI⟩
      · isplitl [Hu] <;> iassumption
      imodintro
      isplitr
      · ipureintro; exact ⟨Buf.eq_of_forall_mem_univ ho, hu⟩
      iexact HSI)
    (hQ := fun _ h hs => ⟨fun c => ⟨(h c).2.2.1, ((h c).1 (0 : Fin 2)).trans ((dats (F := F) m 0 c).arrAt_in (0 : Fin 2) rfl _),
      ((h c).1 (1 : Fin 2)).trans ((dats (F := F) m 0 c).arrAt_in (1 : Fin 2) rfl _)⟩, sem_eq_zero hs fun c => (h c).2.2.2⟩)

end Cert.KernelIdeal
-- ==== Proof.Value.lean ====
module

public import proofs.«01_k».proof.Defs
public import proofs.«01_k».proof.Proof.Launch
public import proofs.«01_k».proof.Proof.Gen.ReferenceIdeal
public import Idealize.ShloMosaic.Lib.Claim
public import Idealize.ShloMosaic.Lib.Quiescent
public import Idealize.ShloMosaic.Lib.MatmulPlain
public import Idealize.ShloMosaic.Lib.StackMember
public import Idealize.ShloMosaic.Lib.KernelVsHost

@[expose] public section

noncomputable section

open Idealize.ShloMosaic Idealize.ShloMosaic.TcCoe Idealize.ShloMosaic.ValueIdx Idealize.SL.Sem

/-! ## The reference -/

namespace Cert.ReferenceIdeal

variable {F : FTy → Type} [FloatOps F]

/-- The reference's result: the product of the two arrays, rounded. -/
def whole (A : FVec F S24576x384 .bf16) (B : FVec F S384x768 .bf16) : FVec F S24576x768 .bf16 :=
  truncf .bf16 (Host.dotGeneral dot_S24576x384_S384x768_S24576x768_1_0_0_1_n_n none A B) Gen.bitsLt_bf16_f32

/-- The reference runs and ends with `whole` of its arguments as its result, the arguments as they were and every counter zero. -/
theorem run_ref (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c : Thread nD τ).loc main_v1) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  hlo_run
  rfl

end Cert.ReferenceIdeal

namespace Cert.KernelIdeal

section
variable {F : FTy → Type} [FloatOps F] (m : (ℓ : Loc nD τ sig) → Buf (Elt F) ℓ)

/-- What is staged of the first operand is the device's whole first argument. -/
theorem stg0_eq (c : Dev nD) : stg0 m c = m ((c : Thread nD τ).loc main_arg0) := by
  funext y
  refine congrArg (m ((c : Thread nD τ).loc main_arg0)) (funext fun a => Fin.ext ?_)
  exact Pipeline.Window.rect_emb_val_of_index_zero win0_0 Gen.t0_0 a (by fin_cases a <;> rfl) y
/-- What is staged of the second operand is the device's whole second argument. -/
theorem stg1_eq (c : Dev nD) : stg1 m c = m ((c : Thread nD τ).loc main_arg1) := by
  funext y
  refine congrArg (m ((c : Thread nD τ).loc main_arg1)) (funext fun a => Fin.ext ?_)
  exact Pipeline.Window.rect_emb_val_of_index_zero win0_1 Gen.t0_0 a (by fin_cases a <;> rfl) y

end

/-- At exact values a device's product is, entry by entry, the sum of products. -/
theorem prod_apply (a : Vec Ideal S768x384 .bf16) (b : Vec Ideal S384x768 .bf16) (r c : Fin 768) :
    prod a b (ix2 r c) = ∑ k : Fin 384, a (ix2 r k) * b (ix2 k c) := by
  refine Eq.trans ?_ (StackMember.dotGeneral_plain_apply none (φ₁ := .bf16) (φ₂ := .bf16) a b r c)
  rw [← matmul_zero_eq_dotGeneral]
  unfold prod
  rw [shapeCast_self, shapeCast_self, shapeCast_self]
  rfl

/-- So is the reference's result. -/
theorem whole_apply (A : FVec Ideal ReferenceIdeal.S24576x384 .bf16) (B : FVec Ideal ReferenceIdeal.S384x768 .bf16)
    (r : Fin 24576) (c : Fin 768) : ReferenceIdeal.whole A B (ix2 r c) = ∑ k : Fin 384, A (ix2 r k) * B (ix2 k c) :=
  StackMember.dotGeneral_plain_apply none A B r c

/-- Where each device holds its rows of `A` and the whole of `B`, the gathered products are the reference's result. -/
theorem gath_whole (m : (ℓ : Loc nD τ sig) → Buf (Elt Ideal) ℓ)
    (A : FVec Ideal ReferenceIdeal.S24576x384 .bf16) (B : FVec Ideal ReferenceIdeal.S384x768 .bf16)
    (hA : ∀ c : Dev nD, m ((c : Thread nD τ).loc main_arg0) = Layout.block ⟨2, ![768, 384]⟩ ⟨2, ![24576, 384]⟩ 0 32 c A)
    (hB : ∀ c : Dev nD, m ((c : Thread nD τ).loc main_arg1) = B) :
    gath (P m) = ReferenceIdeal.whole A B := by
  funext x
  obtain ⟨r, c, rfl⟩ : ∃ (r : Fin 24576) (c : Fin 768), x = ix2 r c := ⟨x 0, x 1, funext fun a => match a with | ⟨0, _⟩ => rfl | ⟨1, _⟩ => rfl⟩
  have hi : inBlock (ix2 r c) = ix2 (⟨r.val % 768, Nat.mod_lt _ (by decide)⟩ : Fin 768) c := by
    funext a
    match a with
    | ⟨0, _⟩ => rfl
    | ⟨1, _⟩ => rfl
  unfold gath P
  rw [hi, prod_apply, whole_apply, stg0_eq, stg1_eq, hA, hB]
  refine Finset.sum_congr rfl fun k _ => congrArg (· * B (ix2 k c)) (congrArg A (funext fun a => Fin.ext ?_))
  match a with
  | ⟨0, _⟩ => exact Nat.div_add_mod' r.val 768
  | ⟨1, _⟩ => rfl

end Cert.KernelIdeal

end
-- ==== Proof.lean ====
/- The proof of the certificate's five claims: the kernel, at machine words and at exact values, and the reference all run to the end,
   leave their arguments as they were and every semaphore counter at zero; the kernel read at exact values is the kernel's own text;
   and at exact values every device of the kernel ends with the reference's result.

   Proof/Launch.lean proves the run of the kernel at any values, Proof/Value.lean the run of the reference and the equation
   between the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel and the kernel read at exact values are the same program. -/
theorem defs_eq {F : FTy → Type} [FloatOps F] : Cert.Kernel.defs (F := F) = Cert.KernelIdeal.defs (F := F) := by
  chain_rfl

/-- The kernel at machine words runs, and ends with its arguments as they were and every counter at zero. -/
theorem frame_kernel : Cert.quiescent_Kernel := fun m ρ _ => by
  rw [defs_eq]
  exact (θ_run Cert.KernelIdeal.defs _ _).mono (fun _ h => ⟨fun c => (h.1 c).2, h.2⟩) (Cert.KernelIdeal.run_main (F := Bits) m ρ)

/-- So does the kernel at exact values. -/
theorem frame_kernelIdeal : Cert.quiescent_KernelIdeal := fun m ρ _ =>
  (θ_run Cert.KernelIdeal.defs _ _).mono (fun _ h => ⟨fun c => (h.1 c).2, h.2⟩) (Cert.KernelIdeal.run_main (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.run_ref (F := Ideal) m ρ)

/-- At exact values every device's result is the reference's. -/
theorem algebraic : Cert.algebraic_KernelIdeal_ReferenceIdeal := fun m ρ m' ρ' _ hagree =>
  ⟨_, (θ_run Cert.KernelIdeal.defs _ _).mono
      (fun _ h c => ⟨(h.1 c).1.trans (Cert.KernelIdeal.gath_whole m _ _ (fun c => (hagree c).1) (fun c => (hagree c).2)), (h.1 c).2⟩)
      (Cert.KernelIdeal.run_main (F := Ideal) m ρ),
    (θ_run Cert.ReferenceIdeal.defs _ _).mono (fun _ h => h 0) (Cert.ReferenceIdeal.run_ref (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
